-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x128x4096 : Shape := ⟨3, ![1, 128, 4096]⟩
abbrev S896x256x32 : Shape := ⟨3, ![896, 256, 32]⟩
abbrev S14336 : Shape := ⟨1, ![14336]⟩
abbrev S4096 : Shape := ⟨1, ![4096]⟩
abbrev S_ : Shape := ⟨0, ![]⟩

class Facts : Prop where
  bitsLt_bf16_f32 : FTy.bits .bf16 < FTy.bits .f32
  bcast_S_S1x128x4096 : S_.BroadcastsInDim S1x128x4096 (![] : Fin 0 → Fin S1x128x4096.rank)
  bcast_S_S14336 : S_.BroadcastsInDim S14336 (![] : Fin 0 → Fin S14336.rank)
  bcast_S_S4096 : S_.BroadcastsInDim S4096 (![] : Fin 0 → Fin S4096.rank)

variable [Facts]

def fn {F : FTy → Type} [FloatOps F] (main_arg0 : FVec F S1x128x4096 .bf16) (main_arg1 : IVec S896x256x32 16) (main_arg2 : FVec F S14336 .f32) (main_arg3 : FVec F S4096 .f32) (main_arg4 : FVec F S14336 .f32) : IVec S1x128x4096 1 × IVec S14336 1 × IVec S4096 1 :=
  let main_v0 : FVec F S1x128x4096 .f32 := (extf .f32 · bitsLt_bf16_f32) main_arg0
  let main_v1 : FVec F S1x128x4096 .f32 := Host.absf main_v0
  let main_cst : FVec F S_ .f32 := constant S_ .f32 0x7F800000#32
  let main_v2 : FVec F S1x128x4096 .f32 := broadcastInDim S1x128x4096 ![] bcast_S_S1x128x4096 main_cst
  let main_v3 : IVec S1x128x4096 1 := cmpf .olt main_v1 main_v2
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_v7 : FVec F S4096 .f32 := Host.absf main_arg3
  let main_cst_1 : FVec F S_ .f32 := constant S_ .f32 0x7F800000#32
  let main_v8 : FVec F S4096 .f32 := broadcastInDim S4096 ![] bcast_S_S4096 main_cst_1
  let main_v9 : IVec S4096 1 := cmpf .olt main_v7 main_v8
  (main_v3, main_v6, main_v9)
-- ==== Kernel.lean ====
abbrev S1x128x4096 : Shape := ⟨3, ![1, 128, 4096]⟩
abbrev S896x256x32 : Shape := ⟨3, ![896, 256, 32]⟩
abbrev S14336 : Shape := ⟨1, ![14336]⟩
abbrev S4096 : Shape := ⟨1, ![4096]⟩
abbrev S896x32x256 : Shape := ⟨3, ![896, 32, 256]⟩
abbrev S128x4096 : Shape := ⟨2, ![128, 4096]⟩
abbrev S1x4096 : Shape := ⟨2, ![1, 4096]⟩
abbrev S1x14336 : Shape := ⟨2, ![1, 14336]⟩
abbrev S128x14336 : Shape := ⟨2, ![128, 14336]⟩
abbrev S64x32x256 : Shape := ⟨3, ![64, 32, 256]⟩
abbrev S1x1024 : Shape := ⟨2, ![1, 1024]⟩
abbrev S128x1024 : Shape := ⟨2, ![128, 1024]⟩
abbrev S4096x128 : Shape := ⟨2, ![4096, 128]⟩
abbrev S1024x128 : Shape := ⟨2, ![1024, 128]⟩
abbrev S128x128 : Shape := ⟨2, ![128, 128]⟩
abbrev S1x128 : Shape := ⟨2, ![1, 128]⟩
abbrev S256x128 : Shape := ⟨2, ![256, 128]⟩
abbrev S1x32x256 : Shape := ⟨3, ![1, 32, 256]⟩
abbrev S32x256 : Shape := ⟨2, ![32, 256]⟩
abbrev S16x256 : Shape := ⟨2, ![16, 256]⟩
abbrev S1x128x14336 : Shape := ⟨3, ![1, 128, 14336]⟩

abbrev nBuf : Space → Nat
  | .hbm => 14
  | .vmem => 15
  | .smem => 0
  | _ => 0

abbrev bufTy : (tb : Table) → Fin (tcTables nBuf tb) → BufTy
  | .hbm, ⟨0, _⟩ => ⟨S1x128x4096, .bf16⟩
  | .hbm, ⟨1, _⟩ => ⟨S896x256x32, .i16⟩
  | .hbm, ⟨2, _⟩ => ⟨S14336, .f32⟩
  | .hbm, ⟨3, _⟩ => ⟨S4096, .f32⟩
  | .hbm, ⟨4, _⟩ => ⟨S14336, .f32⟩
  | .hbm, ⟨5, _⟩ => ⟨S896x32x256, .i16⟩
  | .hbm, ⟨6, _⟩ => ⟨S128x4096, .bf16⟩
  | .hbm, ⟨7, _⟩ => ⟨S1x4096, .f32⟩
  | .hbm, ⟨8, _⟩ => ⟨S1x14336, .f32⟩
  | .hbm, ⟨9, _⟩ => ⟨S1x14336, .f32⟩
  | .hbm, ⟨10, _⟩ => ⟨S128x14336, .bf16⟩
  | .hbm, ⟨11, _⟩ => ⟨S128x4096, .bf16⟩
  | .hbm, ⟨12, _⟩ => ⟨S1x128x14336, .bf16⟩
  | .hbm, ⟨13, _⟩ => ⟨S1x128x4096, .bf16⟩
  | .local _ .vmem, ⟨0, _⟩ => ⟨S128x4096, .bf16⟩
  | .local _ .vmem, ⟨1, _⟩ => ⟨S1x4096, .f32⟩
  | .local _ .vmem, ⟨2, _⟩ => ⟨S64x32x256, .i16⟩
  | .local _ .vmem, ⟨3, _⟩ => ⟨S64x32x256, .i16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S128x4096, .bf16⟩
  | .local _ .vmem, ⟨11, _⟩ => ⟨S4096x128, .f32⟩
  | .local _ .vmem, ⟨12, _⟩ => ⟨S4096x128, .bf16⟩
  | .local _ .vmem, ⟨13, _⟩ => ⟨S128x4096, .bf16⟩
  | .local _ .vmem, ⟨14, _⟩ => ⟨S1024x128, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) (c0_i32_95 : BitVec 32) : Fin 3 → Nat :=
  let c0_i32_1 : BitVec 32 := 0#32
  let c1_i32 : BitVec 32 := 1#32
  let arg12 : BitVec 32 := Scf.iv c0_i32_1 c1_i32 k0_t1
  let c8_i32_94 : BitVec 32 := 8#32
  let v256 : BitVec 32 := Scalar.muli arg12 c8_i32_94
  let v257 : BitVec 32 := Scalar.addi v256 c0_i32_95
  let v258 : Index := Scalar.indexCast v257
  let c0_96 : Index := 0#32
  let c0_97 : Index := 0#32
  ![v258.toNat, 0, 0]
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c128_i32 : BitVec 32 := 128#32
  let v4075 : BitVec 32 := Scalar.muli arg12 c128_i32
  let v4076 : Index := Scalar.indexCast v4075
  let c0_1785 : Index := 0#32
  ![v4076.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x32x256 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x128x4096 : Shape := ⟨3, ![1, 128, 4096]⟩
abbrev S896x256x32 : Shape := ⟨3, ![896, 256, 32]⟩
abbrev S14336 : Shape := ⟨1, ![14336]⟩
abbrev S4096 : Shape := ⟨1, ![4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x1x4096 : Shape := ⟨3, ![1, 1, 4096]⟩
abbrev S1x128x4x1024 : Shape := ⟨4, ![1, 128, 4, 1024]⟩
abbrev S896x256x16x2 : Shape := ⟨4, ![896, 256, 16, 2]⟩
abbrev S896x16x256x2 : Shape := ⟨4, ![896, 16, 256, 2]⟩
abbrev S14336x512 : Shape := ⟨2, ![14336, 512]⟩
abbrev S896x256x31 : Shape := ⟨3, ![896, 256, 31]⟩
abbrev S896x256x1 : Shape := ⟨3, ![896, 256, 1]⟩
abbrev S8 : Shape := ⟨1, ![8]⟩
abbrev S14336x1x512 : Shape := ⟨3, ![14336, 1, 512]⟩
abbrev S1x8x1 : Shape := ⟨3, ![1, 8, 1]⟩
abbrev S14336x8x512 : Shape := ⟨3, ![14336, 8, 512]⟩
abbrev S14336x4096 : Shape := ⟨2, ![14336, 4096]⟩
abbrev S1x128x512x8 : Shape := ⟨4, ![1, 128, 512, 8]⟩
abbrev S1x128x8x512 : Shape := ⟨4, ![1, 128, 8, 512]⟩
abbrev S1x128x14336 : Shape := ⟨3, ![1, 128, 14336]⟩
abbrev S1x1x14336 : Shape := ⟨3, ![1, 1, 14336]⟩
abbrev S1x128x14x1024 : Shape := ⟨4, ![1, 128, 14, 1024]⟩

abbrev nBuf : Space → Nat
  | .hbm => 135
  | .vmem => 0
  | .smem => 0
  | _ => 0

abbrev hbmTy0_0 (i : Nat) : BufTy := match i % 128 with
  | 0 => ⟨S1x128x4096, .bf16⟩
  | 1 => ⟨S896x256x32, .i16⟩
  | 2 => ⟨S14336, .f32⟩
  | 3 => ⟨S4096, .f32⟩
  | 4 => ⟨S14336, .f32⟩
  | 5 => ⟨S1024, .i32⟩
  | 6 => ⟨S1024x1, .i32⟩
  | 7 => ⟨S1x1024, .i32⟩
  | 8 => ⟨S1024x1024, .i32⟩
  | 9 => ⟨S1024x1024, .i32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S_, .i32⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S1024x1024, .f32⟩
  | 22 => ⟨S1x128x4096, .f32⟩
  | 23 => ⟨S1x1x4096, .f32⟩
  | 24 => ⟨S1x128x4096, .f32⟩
  | 25 => ⟨S1x128x4096, .f32⟩
  | 26 => ⟨S1x128x4x1024, .f32⟩
  | 27 => ⟨S1x128x4x1024, .f32⟩
  | 28 => ⟨S_, .f32⟩
  | 29 => ⟨S1x128x4x1024, .f32⟩
  | 30 => ⟨S1x128x4x1024, .f32⟩
  | 31 => ⟨S1x128x4096, .f32⟩
  | 32 => ⟨S1x128x4096, .bf16⟩
  | 33 => ⟨S896x256x16x2, .i16⟩
  | 34 => ⟨S896x16x256x2, .i16⟩
  | 35 => ⟨S14336x512, .i16⟩
  | 36 => ⟨S14336x512, .i32⟩
  | 37 => ⟨S896x256x31, .i16⟩
  | 38 => ⟨S896x256x1, .i16⟩
  | 39 => ⟨S896x256x32, .i16⟩
  | 40 => ⟨S896x256x16x2, .i16⟩
  | 41 => ⟨S896x16x256x2, .i16⟩
  | 42 => ⟨S14336x512, .i16⟩
  | 43 => ⟨S14336x512, .i32⟩
  | 44 => ⟨S_, .i32⟩
  | 45 => ⟨S14336x512, .i32⟩
  | 46 => ⟨S14336x512, .i32⟩
  | 47 => ⟨S14336x512, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S14336x1x512, .i32⟩
  | 56 => ⟨S1x8x1, .i32⟩
  | 57 => ⟨S14336x8x512, .i32⟩
  | 58 => ⟨S14336x8x512, .i32⟩
  | 59 => ⟨S14336x8x512, .i32⟩
  | 60 => ⟨S_, .i32⟩
  | 61 => ⟨S14336x8x512, .i32⟩
  | 62 => ⟨S14336x8x512, .i32⟩
  | 63 => ⟨S_, .i32⟩
  | 64 => ⟨S14336x8x512, .i32⟩
  | 65 => ⟨S14336x8x512, .i32⟩
  | 66 => ⟨S_, .i32⟩
  | 67 => ⟨S14336x8x512, .i32⟩
  | 68 => ⟨S14336x8x512, .i32⟩
  | 69 => ⟨S_, .i32⟩
  | 70 => ⟨S14336x8x512, .i32⟩
  | 71 => ⟨S14336x8x512, .i32⟩
  | 72 => ⟨S_, .i32⟩
  | 73 => ⟨S14336x8x512, .i32⟩
  | 74 => ⟨S14336x8x512, .i32⟩
  | 75 => ⟨S_, .i32⟩
  | 76 => ⟨S14336x8x512, .i32⟩
  | 77 => ⟨S14336x8x512, .i32⟩
  | 78 => ⟨S_, .i32⟩
  | 79 => ⟨S14336x8x512, .i32⟩
  | 80 => ⟨S14336x8x512, .i32⟩
  | 81 => ⟨S_, .i32⟩
  | 82 => ⟨S14336x8x512, .i32⟩
  | 83 => ⟨S14336x8x512, .i32⟩
  | 84 => ⟨S_, .i32⟩
  | 85 => ⟨S14336x8x512, .i32⟩
  | 86 => ⟨S14336x8x512, .i32⟩
  | 87 => ⟨S_, .i32⟩
  | 88 => ⟨S14336x8x512, .i32⟩
  | 89 => ⟨S14336x8x512, .i32⟩
  | 90 => ⟨S_, .i32⟩
  | 91 => ⟨S14336x8x512, .i32⟩
  | 92 => ⟨S14336x8x512, .i32⟩
  | 93 => ⟨S14336x8x512, .i32⟩
  | 94 => ⟨S14336x8x512, .f32⟩
  | 95 => ⟨S_, .i32⟩
  | 96 => ⟨S14336x8x512, .i32⟩
  | 97 => ⟨S14336x8x512, .i32⟩
  | 98 => ⟨S_, .i32⟩
  | 99 => ⟨S14336x8x512, .i32⟩
  | 100 => ⟨S14336x8x512, .i32⟩
  | 101 => ⟨S_, .i32⟩
  | 102 => ⟨S14336x8x512, .i32⟩
  | 103 => ⟨S14336x8x512, .i32⟩
  | 104 => ⟨S_, .i32⟩
  | 105 => ⟨S14336x8x512, .i32⟩
  | 106 => ⟨S14336x8x512, .i32⟩
  | 107 => ⟨S_, .i32⟩
  | 108 => ⟨S14336x8x512, .i32⟩
  | 109 => ⟨S14336x8x512, .i32⟩
  | 110 => ⟨S_, .i32⟩
  | 111 => ⟨S14336x8x512, .i32⟩
  | 112 => ⟨S14336x8x512, .i32⟩
  | 113 => ⟨S14336x8x512, .i32⟩
  | 114 => ⟨S14336x8x512, .f32⟩
  | 115 => ⟨S14336x8x512, .f32⟩
  | 116 => ⟨S14336x8x512, .bf16⟩
  | 117 => ⟨S14336x4096, .bf16⟩
  | 118 => ⟨S1x128x512x8, .bf16⟩
  | 119 => ⟨S1x128x8x512, .bf16⟩
  | 120 => ⟨S1x128x4096, .bf16⟩
  | 121 => ⟨S1x128x14336, .f32⟩
  | 122 => ⟨S1x1x14336, .f32⟩
  | 123 => ⟨S1x128x14336, .f32⟩
  | 124 => ⟨S1x128x14336, .f32⟩
  | 125 => ⟨S1x128x14x1024, .f32⟩
  | 126 => ⟨S1x128x14x1024, .f32⟩
  | 127 => ⟨S_, .f32⟩
  | _ => ⟨S1x128x4096, .bf16⟩

abbrev hbmTy0_1 (i : Nat) : BufTy := match i % 128 with
  | 0 => ⟨S1x128x14x1024, .f32⟩
  | 1 => ⟨S1x128x14x1024, .f32⟩
  | 2 => ⟨S1x128x14336, .f32⟩
  | 3 => ⟨S1x1x14336, .f32⟩
  | 4 => ⟨S1x128x14336, .f32⟩
  | 5 => ⟨S1x128x14336, .f32⟩
  | 6 => ⟨S1x128x14336, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_c_18 : Ref sig .tc := ⟨.hbm, 101, rfl⟩
abbrev main_v74 : Ref sig .tc := ⟨.hbm, 102, rfl⟩
abbrev main_v75 : Ref sig .tc := ⟨.hbm, 103, rfl⟩
abbrev main_c_19 : Ref sig .tc := ⟨.hbm, 104, rfl⟩
abbrev main_v76 : Ref sig .tc := ⟨.hbm, 105, rfl⟩
abbrev main_v77 : Ref sig .tc := ⟨.hbm, 106, rfl⟩
abbrev main_c_20 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_22 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Proof.RunA.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- The body at the first point, run on any contents of its buffers: the pieces it writes into the block of the second
    result, into the first result, and into the scratch that carries the permuted activations to the later points. -/
def runA (c : Dev nD) (i : grid0.Coords) (hc : k0_cond1 i = 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (G10 : BufTy.Contents (Elt F) arg10.view.ty) (G11 : BufTy.Contents (Elt F) arg11.view.ty) :
    { L : List (View.Piece (Elt F) S128x1024 .bf16) × List (View.Piece (Elt F) S128x4096 .bf16) × List (View.Piece (Elt F) S4096x128 .bf16) //
      ∀ (f6 : BufTy.Contents (Elt F) arg6.view.ty) (f7 : BufTy.Contents (Elt F) arg7.view.ty) (f8 : BufTy.Contents (Elt F) arg8.view.ty) (f9 : BufTy.Contents (Elt F) arg9.view.ty) (K : PUnit → sProp 𝕄),
        iprop((arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} G10)
            ∗ (arg11.view.loc (c : Thread nD τ) ↦[arg11.view.set]{fullShare} G11)
            ∗ (iprop((arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} arg6.view.writes (Elt F) f6 L.1)
            ∗ (arg7.view.loc (c : Thread nD τ) ↦[arg7.view.set]{fullShare} arg7.view.writes (Elt F) arg7.view.junk L.2.1)
            ∗ (∃ f, arg8.view.loc (c : Thread nD τ) ↦[arg8.view.set]{fullShare} f)
            ∗ (arg9.view.loc (c : Thread nD τ) ↦[arg9.view.set]{fullShare} arg9.view.writes (Elt F) arg9.view.junk L.2.2)
            ∗ (∃ f, arg10.view.loc (c : Thread nD τ) ↦[arg10.view.set]{fullShare} f)
            ∗ (∃ f, arg11.view.loc (c : Thread nD τ) ↦[arg11.view.set]{fullShare} f)) -∗ K ⟨⟩))
          ⊢ wp frame (wpE (defs₀ (F := F)) Variants.none c none) Set.univ
              (cc0_qtip_tc i arg1 harg1 arg2 harg2 arg3 harg3 arg4 harg4 arg5 harg5 arg6 harg6 arg7 harg7 arg8 harg8 arg9 harg9 arg10 harg10 arg11 harg11) K } := by
  refine ⟨(?_, ?_, ?_), fun f6 f7 f8 f9 K => ?run⟩
  case run =>
    simp only [cc0_qtip_tc_eq_skeleton]; unfold cc0_qtip_tc_skel
    iintro ⟨H1, H2, H3, H4, H5, H6, H7, H8, H9, H10, H11, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    iexists _; iexact H11

end Cert.KernelIdeal.Hand

end
-- ==== Proof.RunB.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The body at a point after the first. -/
def runB (c : Dev nD) (i : grid0.Coords) (hc : k0_cond1 i ≠ 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : BufTy.Contents (Elt F) arg3.view.ty) (X4 : BufTy.Contents (Elt F) arg4.view.ty) (X5 : BufTy.Contents (Elt F) arg5.view.ty)
    (X9 : BufTy.Contents (Elt F) arg9.view.ty) (G10 : BufTy.Contents (Elt F) arg10.view.ty) (G11 : BufTy.Contents (Elt F) arg11.view.ty) :
    { L6 : List (View.Piece (Elt F) S128x1024 .bf16) //
      ∀ (f6 : BufTy.Contents (Elt F) arg6.view.ty) (K : PUnit → sProp 𝕄),
        iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg9.view.loc (c : Thread nD τ) ↦[arg9.view.set]{fullShare} X9)
            ∗ (arg10.view.loc (c : Thread nD τ) ↦[arg10.view.set]{fullShare} G10)
            ∗ (arg11.view.loc (c : Thread nD τ) ↦[arg11.view.set]{fullShare} G11)
            ∗ (iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} arg6.view.writes (Elt F) f6 L6)
            ∗ (arg9.view.loc (c : Thread nD τ) ↦[arg9.view.set]{fullShare} X9)
            ∗ (∃ f, arg10.view.loc (c : Thread nD τ) ↦[arg10.view.set]{fullShare} f)
            ∗ (∃ f, arg11.view.loc (c : Thread nD τ) ↦[arg11.view.set]{fullShare} f)) -∗ K ⟨⟩))
          ⊢ wp frame (wpE (defs₀ (F := F)) Variants.none c none) Set.univ
              (cc0_qtip_tc i arg1 harg1 arg2 harg2 arg3 harg3 arg4 harg4 arg5 harg5 arg6 harg6 arg7 harg7 arg8 harg8 arg9 harg9 arg10 harg10 arg11 harg11) K } := by
  refine ⟨?_, fun f6 K => ?run⟩
  case run =>
    simp only [cc0_qtip_tc_eq_skeleton]; unfold cc0_qtip_tc_skel
    iintro ⟨H3, H4, H5, H6, H9, H10, H11, Hk⟩
    sl_exec
    sl_step
    iapply Hk
    isplitl [H3]; · iexact H3
    isplitl [H4]; · iexact H4
    isplitl [H5]; · iexact H5
    isplitl [H6]; · iexact H6
    isplitl [H9]; · iexact H9
    isplitl [H10]; · iexists _; iexact H10
    iexists _; iexact H11

end Cert.KernelIdeal.Hand

end
-- ==== Proof.Ops.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise.Index
public import Idealize.ShloMosaic.Lib.Pipeline.ReadBack
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The blocks of a two-axis array -/

/-- The array whose block `(a, b)` of `r` rows and `c` columns is `f a b`. -/
def glue {R C : ℕ} (r c : ℕ) (hr : 0 < r) (hc : 0 < c) {α : Type} (f : ℕ → ℕ → (⟨2, ![r, c]⟩ : Shape).Idx → α) :
    (⟨2, ![R, C]⟩ : Shape).Idx → α :=
  fun y => f ((y 0).val / r) ((y 1).val / c) (ix2 ⟨(y 0).val % r, Nat.mod_lt _ hr⟩ ⟨(y 1).val % c, Nat.mod_lt _ hc⟩)

/-- Read through a rectangle at a multiple of the block's extents, the glued array is that block. -/
theorem glue_emb {R C r c : ℕ} (hr : 0 < r) (hc : 0 < c) {α : Type} (f : ℕ → ℕ → (⟨2, ![r, c]⟩ : Shape).Idx → α)
    (off : Fin 2 → ℕ) (inb : ∀ a, off a + (![r, c] : Fin 2 → ℕ) a ≤ (⟨2, ![R, C]⟩ : Shape).size a)
    (h0 : off 0 % r = 0) (h1 : off 1 % c = 0) (x : (⟨2, ![r, c]⟩ : Shape).Idx) :
    f (off 0 / r) (off 1 / c) x
      = glue (R := R) (C := C) r c hr hc f ((Rect.unit (s := ⟨2, ![R, C]⟩) off ![r, c] inb).emb x) := by
  have e0 : (((Rect.unit (s := ⟨2, ![R, C]⟩) off ![r, c] inb).emb x) 0).val = off 0 + (x 0).val := by
    rw [Rect.emb_apply]; simp
  have e1 : (((Rect.unit (s := ⟨2, ![R, C]⟩) off ![r, c] inb).emb x) 1).val = off 1 + (x 1).val := by
    rw [Rect.emb_apply]; simp
  have l0 : (x 0).val < r := (x 0).isLt
  have l1 : (x 1).val < c := (x 1).isLt
  unfold glue
  have d0 : (off 0 + (x 0).val) / r = off 0 / r := by
    obtain ⟨k, hk⟩ := Nat.dvd_of_mod_eq_zero h0
    rw [hk, Nat.mul_add_div hr, Nat.div_eq_of_lt l0, Nat.mul_div_cancel_left _ hr, Nat.add_zero]
  have d1 : (off 1 + (x 1).val) / c = off 1 / c := by
    obtain ⟨k, hk⟩ := Nat.dvd_of_mod_eq_zero h1
    rw [hk, Nat.mul_add_div hc, Nat.div_eq_of_lt l1, Nat.mul_div_cancel_left _ hc, Nat.add_zero]
  have m0 : (off 0 + (x 0).val) % r = (x 0).val := by
    obtain ⟨k, hk⟩ := Nat.dvd_of_mod_eq_zero h0
    rw [hk, Nat.mul_add_mod, Nat.mod_eq_of_lt l0]
  have m1 : (off 1 + (x 1).val) % c = (x 1).val := by
    obtain ⟨k, hk⟩ := Nat.dvd_of_mod_eq_zero h1
    rw [hk, Nat.mul_add_mod, Nat.mod_eq_of_lt l1]
  simp only [e0, e1, d0, d1, m0, m1]
  congr 1
  funext a
  match a with
  | ⟨0, _⟩ => rfl
  | ⟨1, _⟩ => rfl

/-- A block of the glued array, stored, is one of its pieces. -/
theorem piecesOf_cons {e : EltTy} {R C r c : ℕ} (hr : 0 < r) (hc : 0 < c) (f : ℕ → ℕ → (⟨2, ![r, c]⟩ : Shape).Idx → Elt F e)
    {off : Fin 2 → ℕ} {inb : ∀ a, off a + (![r, c] : Fin 2 → ℕ) a ≤ (⟨2, ![R, C]⟩ : Shape).size a}
    {p : (⟨2, ![r, c]⟩ : Shape).Idx → Elt F e} {L : List (View.Piece (Elt F) ⟨2, ![R, C]⟩ e)}
    (h0 : off 0 % r = 0) (h1 : off 1 % c = 0) (hp : p = f (off 0 / r) (off 1 / c))
    (hL : View.PiecesOf (glue r c hr hc f) L) :
    View.PiecesOf (glue r c hr hc f) (⟨Rect.unit (s := ⟨2, ![R, C]⟩) off ![r, c] inb, p⟩ :: L) :=
  ⟨fun x => (congrFun hp x).trans (glue_emb hr hc f off inb h0 h1 x), hL⟩

/-- Stores that are the blocks of one array and cover it leave that array, whatever was there before. -/
theorem read_of_pieces {κ : Kind} {sp : Space} {s : Shape} {e : EltTy} (v : View sig κ sp s e) (f : v.ty.Contents (Elt F))
    (G : s.Idx → Elt F e) (L : List (View.Piece (Elt F) s e)) (h : View.PiecesOf G L)
    (hc : ∀ y : s.Idx, ∃ p ∈ L, y ∈ p.1.set) : v.read (Elt F) (v.writes (Elt F) f L) = G := by
  rw [View.read_writes_of_cover v f v v.junk L hc]
  funext y
  rw [View.read_writes_junk_apply_eq_canon, View.canon_apply_of_pieces G L h.mem y (hc y)]

/-! ## The Hadamard transform of 1024 values in eight parts of 128 -/

/-- The 128 × 128 Hadamard matrix. -/
abbrev had : FVec F S128x128 .bf16 := k0_pay2

/-- A product of a 128 × 128 tile of `bf16` values with that matrix. -/
def dotH (a : FVec F S128x128 .bf16) : FVec F S128x128 .f32 :=
  matmul dot_S128x128_S128x128_S128x128_1_0_0_1_n_n none a had (constant S128x128 .f32 0x00000000#32)

/-- What is left of `z` after its `bf16` rounding. -/
def rest (z : FVec F S128x128 .f32) : FVec F S128x128 .f32 :=
  subf z (extf .f32 (truncf .bf16 z bitsLt_bf16_f32) bitsLt_bf16_f32)

/-- `z` times the matrix, `z` split in three `bf16` values, and the sum scaled by `1/32`. -/
def hadMul (z : FVec F S128x128 .f32) : FVec F S128x128 .f32 :=
  mulf (addf (addf (dotH (truncf .bf16 z bitsLt_bf16_f32)) (dotH (truncf .bf16 (rest z) bitsLt_bf16_f32)))
      (dotH (truncf .bf16 (rest (rest z)) bitsLt_bf16_f32)))
    (broadcast S128x128 (Scalar.ofBits .f32 0x3D000000#32))

/-- The three steps of the butterfly on eight parts: part `i` meets part `i + 1`, `i + 2`, `i + 4`. -/
def bf1 (p : Fin 8 → FVec F S128x128 .f32) : Fin 8 → FVec F S128x128 .f32
  | 0 => addf (p 0) (p 1) | 1 => subf (p 0) (p 1) | 2 => addf (p 2) (p 3) | 3 => subf (p 2) (p 3)
  | 4 => addf (p 4) (p 5) | 5 => subf (p 4) (p 5) | 6 => addf (p 6) (p 7) | 7 => subf (p 6) (p 7)
@[inherit_doc bf1] def bf2 (p : Fin 8 → FVec F S128x128 .f32) : Fin 8 → FVec F S128x128 .f32
  | 0 => addf (p 0) (p 2) | 1 => addf (p 1) (p 3) | 2 => subf (p 0) (p 2) | 3 => subf (p 1) (p 3)
  | 4 => addf (p 4) (p 6) | 5 => addf (p 5) (p 7) | 6 => subf (p 4) (p 6) | 7 => subf (p 5) (p 7)
@[inherit_doc bf1] def bf4 (p : Fin 8 → FVec F S128x128 .f32) : Fin 8 → FVec F S128x128 .f32
  | 0 => addf (p 0) (p 4) | 1 => addf (p 1) (p 5) | 2 => addf (p 2) (p 6) | 3 => addf (p 3) (p 7)
  | 4 => subf (p 0) (p 4) | 5 => subf (p 1) (p 5) | 6 => subf (p 2) (p 6) | 7 => subf (p 3) (p 7)
/-- The butterfly on eight parts. -/
def bfly (p : Fin 8 → FVec F S128x128 .f32) : Fin 8 → FVec F S128x128 .f32 := bf4 (bf2 (bf1 p))

/-! ## The rotated activations -/

/-- A block of 128 columns lies inside the array. -/
theorem inb_col (n : ℕ) (N b : ℕ) (hn : 128 * n + 128 ≤ N) :
    ∀ a, (![0, 128 * n] : Fin 2 → ℕ) a + (![b, 128] : Fin 2 → ℕ) a ≤ (⟨2, ![b, N]⟩ : Shape).size a := by
  intro a; fin_cases a <;> simp <;> omega
/-- A block of rows lies inside the array. -/
theorem inb_row (n : ℕ) (N : ℕ) (r : ℕ) (hn : r * n + r ≤ N) :
    ∀ a, (![r * n, 0] : Fin 2 → ℕ) a + (![r, 128] : Fin 2 → ℕ) a ≤ (⟨2, ![N, 128]⟩ : Shape).size a := by
  intro a; fin_cases a <;> simp <;> omega

/-- Columns `128 n …` of the signed activations. -/
def xpart (x : S128x4096.Idx → Elt F .bf16) (su : S1x4096.Idx → Elt F .f32) (n : Fin 32) : FVec F S128x128 .f32 :=
  mulf (extf .f32 (shapeCast S128x128 (fun j => x ((Rect.unit (s := S128x4096) ![0, 128 * n.val] S128x128.size (inb_col n.val 4096 128 (by omega))).idx j)) shapeCasts_S128x128_S128x128) bitsLt_bf16_f32)
    (broadcastTo S128x128 (shapeCast S1x128 (fun j => su ((Rect.unit (s := S1x4096) ![0, 128 * n.val] S1x128.size (inb_col n.val 4096 1 (by omega))).idx j)) shapeCasts_S1x128_S1x128) broadcasts_S1x128_S128x128)

/-- Columns `128 n …` of the rotated activations. -/
def xrot (x : S128x4096.Idx → Elt F .bf16) (su : S1x4096.Idx → Elt F .f32) (n : ℕ) : FVec F S128x128 .bf16 :=
  truncf .bf16 (hadMul (bfly (fun q => xpart x su (Fin.ofNat 32 (8 * (n / 8) + q.val))) (Fin.ofNat 8 n))) bitsLt_bf16_f32

/-- The rotated activations. -/
def XR (x : S128x4096.Idx → Elt F .bf16) (su : S1x4096.Idx → Elt F .f32) : S128x4096.Idx → Elt F .bf16 :=
  glue (R := 128) (C := 4096) 128 128 (by decide) (by decide) fun _ n => xrot x su n

/-- The rotated activations transposed, in `f32`. -/
def XT (x : S128x4096.Idx → Elt F .bf16) (su : S1x4096.Idx → Elt F .f32) : S4096x128.Idx → Elt F .f32 :=
  glue (R := 4096) (C := 128) 128 128 (by decide) (by decide) fun n _ =>
    shapeCast S128x128 (transpose S128x128 [1, 0] (extf .f32 (xrot x su n) bitsLt_bf16_f32) transposes_S128x128_p1_0_S128x128) shapeCasts_S128x128_S128x128

/-- The strided rows `j, j + 16, …` lie inside the array. -/
theorem inb_stride (j : Fin 16) : ∀ a, (![256, 128] : Fin 2 → ℕ) a = 0 ∨ (![j.val, 0] : Fin 2 → ℕ) a + (![16, 1] : Fin 2 → ℕ) a * ((![256, 128] : Fin 2 → ℕ) a - 1) < (⟨2, ![4096, 128]⟩ : Shape).size a := by
  intro a; fin_cases a <;> simp <;> omega

/-- The permuted transposed activations: block `j` of 256 rows holds the rows `j, j + 16, …`. -/
def XP (xt : S4096x128.Idx → Elt F .f32) : S4096x128.Idx → Elt F .bf16 :=
  glue (R := 4096) (C := 128) 256 128 (by decide) (by decide) fun j _ =>
    k0_pay267 (fun i => xt ((⟨![(Fin.ofNat 16 j).val, 0], S256x128.size, ![16, 1], inb_stride (Fin.ofNat 16 j)⟩ : LoadRect S4096x128).idx i))

/-! ## The decoded weights -/

/-- One decoded value of each 16-bit state. -/
def decode (s : IVec S16x256 32) : FVec F S16x256 .bf16 :=
  have v : IVec S16x256 32 := addi (muli s (broadcast S16x256 89226354#32)) (broadcast S16x256 64248484#32)
  have hi : IVec S16x256 32 := xori (andi (shrsi v (broadcast S16x256 3#32)) (broadcast S16x256 2181029888#32)) (broadcast S16x256 1064042496#32)
  have lo : IVec S16x256 32 := xori (andi (shrsi (shli v (broadcast S16x256 16#32)) (broadcast S16x256 3#32)) (broadcast S16x256 2181029888#32)) (broadcast S16x256 1064042496#32)
  shapeCast S16x256 (truncf .bf16 (addf (bitcastToFloat .f32 lo) (bitcastToFloat .f32 hi)) bitsLt_bf16_f32) shapeCasts_S16x256_S16x256

/-- The states of field `f` of the words `p`: sixteen bits from bit `16 - 2 f` up. -/
def state (p : IVec S16x256 32) : ℕ → IVec S16x256 32
  | 0 => shrui p (broadcast S16x256 16#32)
  | f + 1 => andi (shrui p (broadcast S16x256 (BitVec.ofNat 32 (14 - 2 * f)))) (broadcast S16x256 65535#32)

/-- The words of half `h`: each code with the next one below it. -/
def words (a : Vec F S1x32x256 .i16) : ℕ → IVec S16x256 32
  | 0 => k0_pay286 a
  | _ + 1 => k0_pay287 a

/-- The decoded tile of block row `a`, half and field `n = 8 h + f`. -/
def wtile (a : Vec F S1x32x256 .i16) (n : ℕ) : FVec F S16x256 .bf16 := decode (state (words a (n / 8)) (n % 8))

/-- The codes of block row `b` of trip `k`. -/
def slab (x3 : S64x32x256.Idx → Elt F .i16) (k : Fin k0_t1_loop.trips) (b : Fin 8) : Vec F S1x32x256 .i16 :=
  fun j => x3 ((Rect.unit (s := S64x32x256) (k0_off1 k (BitVec.ofNat 32 b.val)) S1x32x256.size (k0_off1_inb k b)).idx j)

/-- The decoded weights of trip `k`. -/
def W (x3 : S64x32x256.Idx → Elt F .i16) (k : Fin k0_t1_loop.trips) : S128x4096.Idx → Elt F .bf16 :=
  glue (R := 128) (C := 4096) 16 256 (by decide) (by decide) fun b n => wtile (slab x3 k (Fin.ofNat 8 b)) n

/-- The products of trip `k`: 128 output rows by 128 tokens. -/
def chunk (x3 : S64x32x256.Idx → Elt F .i16) (xp : S4096x128.Idx → Elt F .bf16) (k : Fin k0_t1_loop.trips) : FVec F S128x128 .f32 :=
  k0_pay613 (W x3 k) xp

/-- All the products of a point. -/
def ACC (x3 : S64x32x256.Idx → Elt F .i16) (xp : S4096x128.Idx → Elt F .bf16) : S1024x128.Idx → Elt F .f32 :=
  glue (R := 1024) (C := 128) 128 128 (by decide) (by decide) fun k _ => chunk x3 xp ⟨k % 8, Nat.mod_lt _ (by decide)⟩

/-! ## The result's block -/

/-- Part `q` of the scaled products, tokens by rows. -/
def apart (acc : S1024x128.Idx → Elt F .f32) (rs : S1x1024.Idx → Elt F .f32) (q : Fin 8) : FVec F S128x128 .f32 :=
  mulf (transpose S128x128 [1, 0] (fun j => acc ((Rect.unit (s := S1024x128) ![128 * q.val, 0] S128x128.size (inb_row q.val 1024 128 (by omega))).idx j)) transposes_S128x128_p1_0_S128x128)
    (broadcastTo S128x128 (shapeCast S1x128 (fun j => rs ((Rect.unit (s := S1x1024) ![0, 128 * q.val] S1x128.size (inb_col q.val 1024 1 (by omega))).idx j)) shapeCasts_S1x128_S1x128) broadcasts_S1x128_S128x128)

/-- The block of the first result: the products scaled, transformed, signed and rounded. -/
def Y (acc : S1024x128.Idx → Elt F .f32) (rs sv : S1x1024.Idx → Elt F .f32) : S128x1024.Idx → Elt F .bf16 :=
  glue (R := 128) (C := 1024) 128 128 (by decide) (by decide) fun _ q =>
    truncf .bf16 (mulf (hadMul (bfly (apart acc rs) (Fin.ofNat 8 q)))
      (broadcastTo S128x128 (shapeCast S1x128 (fun j => sv ((Rect.unit (s := S1x1024) ![0, 128 * (Fin.ofNat 8 q).val] S1x128.size (inb_col (Fin.ofNat 8 q).val 1024 1 (by have := (Fin.ofNat 8 q).isLt; omega))).idx j)) shapeCasts_S1x128_S1x128) broadcasts_S1x128_S128x128)) bitsLt_bf16_f32

end Cert.KernelIdeal.Hand

end
-- ==== Proof.Pieces.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunA
public import proofs.«01_k».proof.Proof.RunB
public import Idealize.ShloMosaic.Lib.Exec
public import proofs.«01_k».proof.Proof.Ops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- Every store into the weights' scratch in trip `k` is a block of the decoded weights. -/
theorem wpieces (arg3 : Memref sig .tc .vmem S64x32x256 .i16) (X3 : arg3.view.ty.Contents (Elt F)) (k : Fin k0_t1_loop.trips) :
    View.PiecesOf (W (arg3.view.read (Elt F) X3) k) (trip_k0_t1.sl.HW_arg10_128 arg3 X3 k) := by
  unfold trip_k0_t1.sl.HW_arg10_128 W
  iterate 128
    refine piecesOf_cons _ _ _ rfl rfl ?_ ?_
    · rfl
  trivial

/-- Those stores cover the scratch. -/
theorem wcover (arg3 : Memref sig .tc .vmem S64x32x256 .i16) (X3 : arg3.view.ty.Contents (Elt F)) (k : Fin k0_t1_loop.trips) :
    ∀ y : S128x4096.Idx, ∃ p ∈ trip_k0_t1.sl.HW_arg10_128 arg3 X3 k, y ∈ p.1.set :=
  View.cover_of_tiled _ ![16, 256] (by sl_kernel_rfl)

/-- Every store into the second result's window at the first point is a block of the rotated activations. -/
theorem xrpieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XR (arg1.view.read (Elt F) X1) (arg2.view.read (Elt F) X2)) (runA.sl.H7_32 arg1 arg2 X1 X2) := by
  unfold runA.sl.H7_32 XR
  iterate 32
    refine piecesOf_cons _ _ _ rfl rfl ?_ ?_
    · rfl
  trivial

/-- The stores into the second result's window cover it. -/
theorem xrcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S128x4096.Idx, ∃ p ∈ runA.sl.H7_32 arg1 arg2 X1 X2, y ∈ p.1.set :=
  View.cover_of_tiled _ ![128, 128] (by sl_kernel_rfl)

/-- Every store into the transposed scratch is a block of the transposed activations. -/
theorem xtpieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XT (arg1.view.read (Elt F) X1) (arg2.view.read (Elt F) X2)) (runA.sl.H8_32 arg1 arg2 X1 X2) := by
  unfold runA.sl.H8_32 XT
  iterate 32
    refine piecesOf_cons _ _ _ rfl rfl ?_ ?_
    · rfl
  trivial

/-- The stores into the transposed scratch cover it. -/
theorem xtcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S4096x128.Idx, ∃ p ∈ runA.sl.H8_32 arg1 arg2 X1 X2, y ∈ p.1.set :=
  View.cover_of_tiled _ ![128, 128] (by sl_kernel_rfl)

attribute [local irreducible] runA.sl.H8_32 in
/-- Every store into the permuted scratch is a block of the permuted activations. -/
theorem xppieces0 (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XP (arg8.view.read (Elt F) (arg8.view.writes (Elt F) arg8.view.junk (runA.sl.H8_32 arg1 arg2 X1 X2)))) (runA.sl.H9_16 arg1 arg2 arg8 X1 X2) := by
  unfold runA.sl.H9_16 XP
  iterate 16
    refine piecesOf_cons _ _ _ rfl rfl ?_ ?_
    · rfl
  trivial

/-- Every store into the permuted scratch is a block of the permuted rotated activations. -/
theorem xppieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XP (XT (arg1.view.read (Elt F) X1) (arg2.view.read (Elt F) X2))) (runA.sl.H9_16 arg1 arg2 arg8 X1 X2) := by
  have h := xppieces0 arg1 arg2 arg8 X1 X2
  rw [read_of_pieces _ _ _ _ (xtpieces arg1 arg2 arg8 X1 X2) (xtcover arg1 arg2 arg8 X1 X2)] at h
  exact h

/-- The stores into the permuted scratch cover it. -/
theorem xpcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S4096x128.Idx, ∃ p ∈ runA.sl.H9_16 arg1 arg2 arg8 X1 X2, y ∈ p.1.set :=
  View.cover_of_tiled _ ![256, 128] (by sl_kernel_rfl)
-- ==== Proof.Loop.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunA
public import proofs.«01_k».proof.Proof.RunB
public import Idealize.ShloMosaic.Lib.Exec
public import proofs.«01_k».proof.Proof.Ops
public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- Reading the whole of a matrix gives the matrix. -/
theorem idx_whole2 {a b : ℕ} (inb : ∀ d, (![0, 0] : Fin 2 → ℕ) d + (![a, b] : Fin 2 → ℕ) d ≤ (⟨2, ![a, b]⟩ : Shape).size d)
    {α : Type} (G : (⟨2, ![a, b]⟩ : Shape).Idx → α) :
    (fun j => G ((Rect.unit (s := ⟨2, ![a, b]⟩) ![0, 0] ![a, b] inb).toLoadRect.idx j)) = G := by
  funext j
  congr 1
  funext d
  apply Fin.ext
  match d with
  | ⟨0, _⟩ => simp [LoadRect.idx_apply]
  | ⟨1, _⟩ => simp [LoadRect.idx_apply]

/-- Step `k` of the loop stores from row `128 k` on. -/
theorem k0_off2_row : ∀ k : Fin k0_t1_loop.trips, k0_off2 k 0 = 128 * k.val := by decide
/-- Step `k` of the loop stores from the first column on. -/
theorem k0_off2_col : ∀ k : Fin k0_t1_loop.trips, k0_off2 k 1 = 0 := by decide

/-- What trip `k` stores into the products' scratch, whatever the scratches held. -/
theorem trip_acc (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (k : Fin k0_t1_loop.trips) (f10 f11) :
    ∃ inb, (tripL_k0_t1 (F := F) Variants.none c none i arg1 harg1 arg2 harg2 arg3 harg3 arg4 harg4 arg5 harg5 arg6 harg6 arg7 harg7 arg8 harg8 arg9 harg9 arg10 harg10 arg11 harg11 X3 X9 k f10 f11).2
      = [⟨Rect.unit (s := S1024x128) (k0_off2 k) ![128, 128] inb, chunk (arg3.view.read (Elt F) X3) (arg9.view.read (Elt F) X9) k⟩] := by
  unfold tripL_k0_t1 trip_k0_t1
  dsimp only
  have hw : trip_k0_t1.sl.v4072 arg3 arg10 X3 k = W (arg3.view.read (Elt F) X3) k := by
    rw [← read_of_pieces arg10.view arg10.view.junk _ _ (wpieces arg3 X3 k) (wcover arg3 X3 k)]
    exact idx_whole2 inb_S128x4096_S128x4096_0_0 _
  have hx : View.readAt (Elt F) arg9.view (Rect.unit ![0, 0] ![4096, 128] inb_S4096x128_S4096x128_0_0).toLoadRect X9 = arg9.view.read (Elt F) X9 :=
    idx_whole2 inb_S4096x128_S4096x128_0_0 _
  rw [hw, hx]
  exact ⟨_, rfl⟩

/-- After the trips before `n`, the stores into the products' scratch are blocks of all the products, and cover the rows before `128 n`. -/
theorem acc_upto (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (G10 G11) (n : ℕ) (hn : n ≤ k0_t1_loop.trips) :
    View.PiecesOf (ACC (arg3.view.read (Elt F) X3) (arg9.view.read (Elt F) X9))
        (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2
      ∧ ∀ y : S1024x128.Idx, (y 0).val < 128 * n →
        ∃ p ∈ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2, y ∈ p.1.set := by
  induction n with
  | zero => exact ⟨trivial, fun y h => absurd h (by omega)⟩
  | succ n ih =>
    obtain ⟨ih, ihc⟩ := ih (by omega)
    have hk : n < 8 := hn
    obtain ⟨inb, e⟩ := trip_acc c i arg1 harg1 arg2 harg2 arg3 harg3 arg4 harg4 arg5 harg5 arg6 harg6 arg7 harg7 arg8 harg8 arg9 harg9 arg10 harg10 arg11 harg11 X3 X9 ⟨n, hn⟩
      (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).1)
      (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2)
    have hs : (pb_k0_t1 (F := F) Variants.none c none i arg1 harg1 arg2 harg2 arg3 harg3 arg4 harg4 arg5 harg5 arg6 harg6 arg7 harg7 arg8 harg8 arg9 harg9 arg10 harg10 arg11 harg11 X3 X9 G10 G11 (n + 1)).2
        = [⟨Rect.unit (s := S1024x128) (k0_off2 ⟨n, hn⟩) ![128, 128] inb, chunk (arg3.view.read (Elt F) X3) (arg9.view.read (Elt F) X9) ⟨n, hn⟩⟩]
          ++ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2 :=
      (congrArg Prod.snd (pb_k0_t1_succ (F := F) Variants.none c none i arg1 harg1 arg2 harg2 arg3 harg3 arg4 harg4 arg5 harg5 arg6 harg6 arg7 harg7 arg8 harg8 arg9 harg9 arg10 harg10 arg11 harg11 X3 X9 G10 G11 ⟨n, hn⟩)).trans
        (congrArg (· ++ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2) e)
    rw [hs]
    have r0 := k0_off2_row ⟨n, hn⟩
    have c0 := k0_off2_col ⟨n, hn⟩
    dsimp only at r0
    refine ⟨piecesOf_cons (r := 128) (c := 128) _ _ _ (by rw [r0]; omega) (by rw [c0]) ?_ ih, fun y hy => ?_⟩
    · rw [r0]
      refine congrArg (chunk _ _) (Fin.ext ?_)
      show n = 128 * n / 128 % 8
      rw [Nat.mul_div_cancel_left _ (by decide), Nat.mod_eq_of_lt hk]
    · by_cases h : (y 0).val < 128 * n
      · obtain ⟨p, hp, hy⟩ := ihc y h
        exact ⟨p, List.mem_cons_of_mem _ hp, hy⟩
      · refine ⟨_, List.mem_cons_self, ?_⟩
        have y1 : (y 1).val < 128 := (y 1).isLt
        rw [Rect.mem_set_unit]
        intro d
        match d with
        | ⟨0, _⟩ => exact ⟨by show k0_off2 _ 0 ≤ _; rw [r0]; exact Nat.le_of_not_lt h, by show _ < k0_off2 _ 0 + 128; rw [r0]; show (y 0).val < _; omega⟩
        | ⟨1, _⟩ => exact ⟨by show k0_off2 _ 1 ≤ _; rw [c0]; exact Nat.zero_le _, by show _ < k0_off2 _ 1 + 128; rw [c0]; show (y 1).val < _; omega⟩

/-- After the loop the products' scratch holds all the products. -/
theorem acc_read (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (G10 G11) :
    arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 X3 X9 G10 G11 k0_t1_loop.trips).2)
      = ACC (arg3.view.read (Elt F) X3) (arg9.view.read (Elt F) X9) := by
  obtain ⟨h, hc⟩ := acc_upto c i arg1 harg1 arg2 harg2 arg3 harg3 arg4 harg4 arg5 harg5 arg6 harg6 arg7 harg7 arg8 harg8 arg9 harg9 arg10 harg10 arg11 harg11 X3 X9 G10 G11 k0_t1_loop.trips le_rfl
  exact read_of_pieces _ _ _ _ h fun y => hc y (y 0).isLt

attribute [local irreducible] pb_k0_t1 in
/-- Every store of the first result at a later point is a block of that result. -/
theorem ypieces_later (c : Dev nD) (i : grid0.Coords) (hc : k0_cond1 i ≠ 1#1) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X4 : arg4.view.ty.Contents (Elt F)) (X5 : arg5.view.ty.Contents (Elt F)) (X9 : arg9.view.ty.Contents (Elt F)) (G10 G11) :
    View.PiecesOf (Y (ACC (arg3.view.read (Elt F) X3) (arg9.view.read (Elt F) X9)) (arg4.view.read (Elt F) X4) (arg5.view.read (Elt F) X5))
        (runB (F := F) c i hc arg1 harg1 arg2 harg2 arg3 harg3 arg4 harg4 arg5 harg5 arg6 harg6 arg7 harg7 arg8 harg8 arg9 harg9 arg10 harg10 arg11 harg11 X3 X4 X5 X9 G10 G11).1 := by
  rw [← acc_read c i arg1 harg1 arg2 harg2 arg3 harg3 arg4 harg4 arg5 harg5 arg6 harg6 arg7 harg7 arg8 harg8 arg9 harg9 arg10 harg10 arg11 harg11 X3 X9 G10 G11]
  unfold runB Y
  dsimp only
  iterate 8
    refine piecesOf_cons _ _ _ rfl rfl ?_ ?_
    · rfl
  trivial

/-- The stores of the first result at a later point cover its block. -/
theorem ycover_later (c : Dev nD) (i : grid0.Coords) (hc : k0_cond1 i ≠ 1#1) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X4 : arg4.view.ty.Contents (Elt F)) (X5 : arg5.view.ty.Contents (Elt F)) (X9 : arg9.view.ty.Contents (Elt F)) (G10 G11) :
    ∀ y : S128x1024.Idx, ∃ p ∈ (runB (F := F) c i hc arg1 harg1 arg2 harg2 arg3 harg3 arg4 harg4 arg5 harg5 arg6 harg6 arg7 harg7 arg8 harg8 arg9 harg9 arg10 harg10 arg11 harg11 X3 X4 X5 X9 G10 G11).1, y ∈ p.1.set :=
  View.cover_of_tiled _ ![128, 128] (by sl_kernel_rfl)

section first
variable (c : Dev nD) (i : grid0.Coords) (hc : k0_cond1 i = 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X1 : arg1.view.ty.Contents (Elt F)) (X2 : arg2.view.ty.Contents (Elt F)) (X3 : arg3.view.ty.Contents (Elt F)) (X4 : arg4.view.ty.Contents (Elt F)) (X5 : arg5.view.ty.Contents (Elt F))
    (G10 : arg10.view.ty.Contents (Elt F)) (G11 : arg11.view.ty.Contents (Elt F))

/-- The pieces of the second result's window and of the permuted scratch at the first point. -/
theorem runA_snd : (runA (F := F) c i hc arg1 harg1 arg2 harg2 arg3 harg3 arg4 harg4 arg5 harg5 arg6 harg6 arg7 harg7 arg8 harg8 arg9 harg9 arg10 harg10 arg11 harg11 X1 X2 X3 X4 X5 G10 G11).1.2 = (runA.sl.H7_32 arg1 arg2 X1 X2, runA.sl.H9_16 arg1 arg2 arg8 X1 X2) := by
  unfold runA
  rfl

attribute [local irreducible] pb_k0_t1 runA.sl.H9_16 in
/-- Every store of the first result at the first point is a block of that result. -/
theorem ypieces_first :
    View.PiecesOf (Y (ACC (arg3.view.read (Elt F) X3) (XP (XT (arg1.view.read (Elt F) X1) (arg2.view.read (Elt F) X2)))) (arg4.view.read (Elt F) X4) (arg5.view.read (Elt F) X5))
        (runA (F := F) c i hc arg1 harg1 arg2 harg2 arg3 harg3 arg4 harg4 arg5 harg5 arg6 harg6 arg7 harg7 arg8 harg8 arg9 harg9 arg10 harg10 arg11 harg11 X1 X2 X3 X4 X5 G10 G11).1.1 := by
  rw [← read_of_pieces arg9.view arg9.view.junk _ _ (xppieces arg1 arg2 arg8 X1 X2) (xpcover arg1 arg2 arg8 X1 X2)]
  rw [← acc_read c i arg1 harg1 arg2 harg2 arg3 harg3 arg4 harg4 arg5 harg5 arg6 harg6 arg7 harg7 arg8 harg8 arg9 harg9 arg10 harg10 arg11 harg11 X3 _ G10 G11]
  unfold runA Y
  dsimp only
  iterate 8
    refine piecesOf_cons _ _ _ rfl rfl ?_ ?_
    · rfl
  trivial

/-- The stores of the first result at the first point cover its block. -/
theorem ycover_first :
    ∀ y : S128x1024.Idx, ∃ p ∈ (runA (F := F) c i hc arg1 harg1 arg2 harg2 arg3 harg3 arg4 harg4 arg5 harg5 arg6 harg6 arg7 harg7 arg8 harg8 arg9 harg9 arg10 harg10 arg11 harg11 X1 X2 X3 X4 X5 G10 G11).1.1, y ∈ p.1.set :=
  View.cover_of_tiled _ ![128, 128] (by sl_kernel_rfl)

end first

end Cert.KernelIdeal.Hand

end
-- ==== Proof.Frame.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunA
public import proofs.«01_k».proof.Proof.RunB
public import Idealize.ShloMosaic.Lib.Exec
public import proofs.«01_k».proof.Proof.Ops
public import proofs.«01_k».proof.Proof.Loop
public import proofs.«01_k».proof.Proof.Gen.KernelIdeal.Points
public import Idealize.ShloMosaic.Lib.Pipeline.FrameBody
public import Idealize.ShloMosaic.Lib.Pipeline.TableIdle
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's operands -/

/-- Window 0's staging buffer at point `t`. -/
abbrev ms0_0 (t : Fin cfg0.N) : Memref sig .tc .vmem S128x4096 .bf16 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S1x4096 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S64x32x256 .i16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x1024 .f32 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x1024 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S128x1024 .bf16 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S128x4096 .bf16 := win0_6.stage (cfg0.slots t 6)
/-- Window 6's staging buffer is a whole buffer. -/
abbrev hs0_6 (t : Fin cfg0.N) : (ms0_6 t).IsWhole := hstage0_6 ((cfg0.slots t 6).cast nbuf0_6)
/-- Scratch buffer 0. -/
abbrev scM0_0 : Memref sig .tc .vmem S4096x128 .f32 := Memref.whole cc0_scratch0
/-- Scratch buffer 1. -/
abbrev scM0_1 : Memref sig .tc .vmem S4096x128 .bf16 := Memref.whole cc0_scratch1
/-- Scratch buffer 2. -/
abbrev scM0_2 : Memref sig .tc .vmem S128x4096 .bf16 := Memref.whole cc0_scratch2
/-- Scratch buffer 3. -/
abbrev scM0_3 : Memref sig .tc .vmem S1024x128 .f32 := Memref.whole cc0_scratch3

/-! ## What the buffers hold -/

/-- The second result: the rotated activations of the point that computes them. -/
def xrAt (c : Dev nD) : S128x4096.Idx → Elt F .bf16 := XR (iblk m c 0 t0_0) (iblk m c 1 t0_0)
/-- The permuted transposed activations, which the first point leaves for the later ones. -/
def xpAt (c : Dev nD) : S4096x128.Idx → Elt F .bf16 := XP (XT (iblk m c 0 t0_0) (iblk m c 1 t0_0))
/-- The block of the first result at point `t`. -/
def yAt (c : Dev nD) (t : Fin cfg0.N) : S128x1024.Idx → Elt F .bf16 := Y (ACC (iblk m c 2 t) (xpAt m c)) (iblk m c 3 t) (iblk m c 4 t)

/-- Between points: the permuted activations in their scratch, the other scratches at anything. -/
def ΦT (c : Dev nD) : sProp 𝕄 :=
  iprop(((∃ d, owns (c : Thread nD τ) scM0_0 fullShare d) ∗ owns (c : Thread nD τ) scM0_1 fullShare (xpAt m c)
    ∗ (∃ d, owns (c : Thread nD τ) scM0_2 fullShare d) ∗ (∃ d, owns (c : Thread nD τ) scM0_3 fullShare d)) ∗ (∃ r, prngReg c r))

/-- The scratch state before the launch: four buffers with any contents. -/
theorem PhiA_eq (c : Dev nD) : (Pipeline.ΦA spec0 c : sProp 𝕄)
    = iprop(((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)) ∗ (∃ r, prngReg c r)) := by
  unfold Pipeline.ΦA
  rw [scopedRest0_eq]
  simp only [scM0_0, scM0_1, scM0_2, scM0_3, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => xrAt m c
  Φ t := if t.val = 0 then Pipeline.ΦA spec0 c else ΦT m c
  q _ := fullShare
  owed _ := 0

/-- A window's array at the launch is its operand. -/
theorem A_eq (c : Dev nD) (w : Fin cfg0.W) : (dats m 0 c).A w = V m c (Pipeline.arrRef spec0 w) := by
  dsimp only [dats]
/-- What the body leaves in window 0. -/
theorem after0_0 (c : Dev nD) (t : Fin cfg0.N) : (dats m 0 c).after 0 t = iblk m c 0 t := by dsimp only [dats]
/-- What the body finds in window 0. -/
theorem before0_0 (c : Dev nD) (t : Fin cfg0.N) (d) : (dats m 0 c).before 0 t d = iblk m c 0 t := before0_0_of m _ (A_eq m c 0) (after0_0 m c) t d
/-- What the body leaves in window 1. -/
theorem after0_1 (c : Dev nD) (t : Fin cfg0.N) : (dats m 0 c).after 1 t = iblk m c 1 t := by dsimp only [dats]
/-- What the body finds in window 1. -/
theorem before0_1 (c : Dev nD) (t : Fin cfg0.N) (d) : (dats m 0 c).before 1 t d = iblk m c 1 t := before0_1_of m _ (A_eq m c 1) (after0_1 m c) t d
/-- What the body leaves in window 2. -/
theorem after0_2 (c : Dev nD) (t : Fin cfg0.N) : (dats m 0 c).after 2 t = iblk m c 2 t := by dsimp only [dats]
/-- What the body finds in window 2. -/
theorem before0_2 (c : Dev nD) (t : Fin cfg0.N) (d) : (dats m 0 c).before 2 t d = iblk m c 2 t := before0_2_of m _ (A_eq m c 2) (after0_2 m c) t d
/-- What the body leaves in window 3. -/
theorem after0_3 (c : Dev nD) (t : Fin cfg0.N) : (dats m 0 c).after 3 t = iblk m c 3 t := by dsimp only [dats]
/-- What the body finds in window 3. -/
theorem before0_3 (c : Dev nD) (t : Fin cfg0.N) (d) : (dats m 0 c).before 3 t d = iblk m c 3 t := before0_3_of m _ (A_eq m c 3) (after0_3 m c) t d
/-- What the body leaves in window 4. -/
theorem after0_4 (c : Dev nD) (t : Fin cfg0.N) : (dats m 0 c).after 4 t = iblk m c 4 t := by dsimp only [dats]
/-- What the body finds in window 4. -/
theorem before0_4 (c : Dev nD) (t : Fin cfg0.N) (d) : (dats m 0 c).before 4 t d = iblk m c 4 t := before0_4_of m _ (A_eq m c 4) (after0_4 m c) t d
/-- What the body leaves in window 5. -/
theorem after0_5 (c : Dev nD) (t : Fin cfg0.N) : (dats m 0 c).after 5 t = yAt m c t := by dsimp only [dats]
/-- What the body leaves in window 6. -/
theorem after0_6 (c : Dev nD) (t : Fin cfg0.N) : (dats m 0 c).after 6 t = xrAt m c := by dsimp only [dats]
/-- The second result's window keeps its block after the first point. -/
theorem fresh_6 : ∀ t : Fin cfg0.N, t.val ≠ 0 → cfg0.fresh 6 t.val = false := by decide +kernel
/-- What the body finds in window 6. -/
theorem before0_6 (c : Dev nD) (t : Fin cfg0.N) (ht : t.val ≠ 0) (d) : (dats m 0 c).before 6 t d = xrAt m c := by
  rw [(dats m 0 c).before_out_traj 6 rfl (fun _ _ => rfl) (fun _ _ _ _ => rfl) t.val t rfl d, fresh_6 t ht, if_neg Bool.false_ne_true]
  rfl

/-- A buffer held whole, from its contents. -/
theorem owns_intro {sp : Space} {s : Shape} {e : EltTy} (c : Dev nD) (M : Memref sig .tc sp s e) (f : M.view.ty.Contents (Elt F)) (X : s.Idx → Elt F e)
    (h : M.view.read (Elt F) f = X) :
    (M.view.loc (c : Thread nD τ) ↦[M.view.set]{fullShare} f : sProp 𝕄) ⊢ iprop(∃ g, ⌜M.view.read (Elt F) g = X⌝ ∗ (M.view.loc (c : Thread nD τ) ↦[M.view.set]{fullShare} g)) := by
  iintro H; iexists _; isplitr
  swap; · iexact H
  ipureintro; exact h

/-- What the body leaves in the second result's buffer, which only the first point stores into. -/
def post6 (c : Dev nD) (t : Fin cfg0.N) : sProp 𝕄 :=
  match cfg0.idle 6 (cfg0.grid.coords t) with
  | true => match (cfg0.win 6).flush t with
    | false => iprop(∃ d, owns (c : Thread nD τ) (ms0_6 t) fullShare ((dats m 0 c).before 6 t d))
    | true => owns (c : Thread nD τ) (ms0_6 t) fullShare ((dats m 0 c).after 6 t)
  | false => owns (c : Thread nD τ) (ms0_6 t) fullShare ((dats m 0 c).after 6 t)

/-- The second result's window, left as it was, holds the rotated activations at a later point. -/
theorem post6_later (c : Dev nD) (t : Fin cfg0.N) (ht : t.val ≠ 0) (f) (h : (ms0_6 t).view.read (Elt F) f = xrAt m c) :
    ((ms0_6 t).view.loc (c : Thread nD τ) ↦[(ms0_6 t).view.set]{fullShare} f : sProp 𝕄) ⊢ post6 m c t := by
  refine BIBase.Entails.trans (owns_intro c (ms0_6 t) f _ h) ?_
  unfold post6
  split
  · split
    · simp only [before0_6 m c t ht]
      unfold owns; iintro H; iexists (xrAt m c); iexact H
    · rw [after0_6]; unfold owns; exact .rfl
  · rw [after0_6]; unfold owns; exact .rfl

/-- The second result's window holds the rotated activations after the first point. -/
theorem post6_first (c : Dev nD) (f) (h : (ms0_6 t0_0).view.read (Elt F) f = xrAt m c) :
    ((ms0_6 t0_0).view.loc (c : Thread nD τ) ↦[(ms0_6 t0_0).view.set]{fullShare} f : sProp 𝕄) ⊢ post6 m c t0_0 := by
  refine BIBase.Entails.trans (owns_intro c (ms0_6 t0_0) f _ h) ?_
  unfold post6
  rw [show cfg0.idle 6 (cfg0.grid.coords t0_0) = false by decide, after0_6]; unfold owns
  exact .rfl

/-- The state before the first point: any scratch contents. -/
theorem Phi_zero (c : Dev nD) (t : Fin (cfg0.N + 1)) (ht : t.val = 0) : (dats m 0 c).Φ t = Pipeline.ΦA spec0 c := by
  dsimp only [dats]; exact if_pos ht
/-- The state before a later point: the permuted activations are in place. -/
theorem Phi_pos (c : Dev nD) (t : Fin (cfg0.N + 1)) (ht : t.val ≠ 0) : (dats m 0 c).Φ t = ΦT m c := by
  dsimp only [dats]; exact if_neg ht

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0  t) fullShare ((dats m 0 c).before 0 t d))
    ∗ (∃ d, owns (c : Thread nD τ) (ms0_1  t) fullShare ((dats m 0 c).before 1 t d))
    ∗ (∃ d, owns (c : Thread nD τ) (ms0_2  t) fullShare ((dats m 0 c).before 2 t d))
    ∗ (∃ d, owns (c : Thread nD τ) (ms0_3  t) fullShare ((dats m 0 c).before 3 t d))
    ∗ (∃ d, owns (c : Thread nD τ) (ms0_4  t) fullShare ((dats m 0 c).before 4 t d))
    ∗ (∃ d, owns (c : Thread nD τ) (ms0_5  t) fullShare ((dats m 0 c).before 5 t d))
    ∗ (∃ d, owns (c : Thread nD τ) (ms0_6  t) fullShare ((dats m 0 c).before 6 t d)))
/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ post6 m c t)

/-- The body's branch is taken at the first point only. -/
theorem cond_first : ∀ i : grid0.Coords, k0_cond1 i = 1#1 ↔ (i 0).val = 0 := by decide
/-- A grid point's coordinate is its number. -/
theorem coords_val : ∀ t : Fin grid0.N, ((grid0.coords t) 0).val = t.val := by decide

/-- The body at a later point does what it should. -/
theorem sound_later (c : Dev nD) (t : Fin cfg0.N) (ht : t.val ≠ 0) :
    bodyPre m c t ⊢ wp frame (wpE (defs₀ (F := F)) Variants.none c none) Set.univ (bodyAt0 t) (fun _ => bodyPost m c t) := by
  have hc : k0_cond1 (grid0.coords t) ≠ 1#1 := fun h => ht ((coords_val t).symm.trans ((cond_first _).mp h))
  unfold bodyPre bodyPost bodyAt0
  rw [Phi_pos m c t.castSucc ht, Phi_pos m c t.succ (Nat.succ_ne_zero _)]
  unfold Dat.owesAt Pipeline.owesWithin
  rw [show (dats m 0 c).owed t.castSucc = 0 from rfl, show (dats m 0 c).owed t.succ = 0 from rfl]
  simp only [before0_0, before0_1, before0_2, before0_3, before0_4, before0_6 m c t ht, after0_0, after0_1, after0_2, after0_3, after0_4, after0_5, after0_6]
  unfold ΦT owns
  iintro ⟨⟨⟨S0, ⟨%f9, %e9, S1⟩, ⟨%d10, %f10, -, S2⟩, ⟨%d11, %f11, -, S3⟩⟩, Hg⟩, ⟨%W, -, HW⟩, ⟨%d0, H0⟩, ⟨%d1, H1⟩, ⟨%d2, %f2, %e2, H2⟩, ⟨%d3, %f3, %e3, H3⟩, ⟨%d4, %f4, %e4, H4⟩, ⟨%d5, %f5, -, H5⟩, ⟨%d6, %f6, %e6, H6⟩⟩
  iapply ((runB (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11).2 f5 _)
  isplitl [H2]; · iexact H2
  isplitl [H3]; · iexact H3
  isplitl [H4]; · iexact H4
  isplitl [H5]; · iexact H5
  isplitl [S1]; · iexact S1
  isplitl [S2]; · iexact S2
  isplitl [S3]; · iexact S3
  iintro ⟨H2, H3, H4, H5, S1, ⟨%g10, S2⟩, ⟨%g11, S3⟩⟩
  isplitl [S0 S1 S2 S3 Hg]
  · isplitl [S0 S1 S2 S3]
    · isplitl [S0]; · iexact S0
      isplitl [S1]; · iapply (owns_intro c scM0_1 f9 _ e9); iexact S1
      isplitl [S2]; · iexists _; iapply (owns_intro c scM0_2 g10 _ rfl); iexact S2
      iexists _; iapply (owns_intro c scM0_3 g11 _ rfl); iexact S3
    iexact Hg
  isplitl [HW]
  · iexists W; isplitr; · ipureintro; exact fun _ _ => Or.inl trivial
    iexact HW
  isplitl [H0]; · iexact H0
  isplitl [H1]; · iexact H1
  isplitl [H2]; · iapply (owns_intro c (ms0_2 t) f2 _ e2); iexact H2
  isplitl [H3]; · iapply (owns_intro c (ms0_3 t) f3 _ e3); iexact H3
  isplitl [H4]; · iapply (owns_intro c (ms0_4 t) f4 _ e4); iexact H4
  isplitl [H5]
  · iapply (owns_intro c (ms0_5 t) _ _ ?_)
    · have h := read_of_pieces (ms0_5 t).view f5 _ _ (ypieces_later c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11)
        (ycover_later c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11)
      rw [e2, e3, e4, e9] at h
      exact h
    iexact H5
  iapply (post6_later m c t ht _ e6); iexact H6

/-- The body at the first point does what it should. -/
theorem sound_first (c : Dev nD) (t : Fin cfg0.N) (ht : t.val = 0) :
    bodyPre m c t ⊢ wp frame (wpE (defs₀ (F := F)) Variants.none c none) Set.univ (bodyAt0 t) (fun _ => bodyPost m c t) := by
  have hc : k0_cond1 (grid0.coords t) = 1#1 := (cond_first _).mpr ((coords_val t).trans ht)
  obtain rfl : t = t0_0 := Fin.ext ht
  unfold bodyPre bodyPost bodyAt0
  rw [Phi_zero m c (Fin.castSucc t0_0) rfl, Phi_pos m c (Fin.succ t0_0) (Nat.succ_ne_zero _), PhiA_eq]
  unfold Dat.owesAt Pipeline.owesWithin
  rw [show (dats m 0 c).owed (Fin.castSucc t0_0) = 0 from rfl, show (dats m 0 c).owed (Fin.succ t0_0) = 0 from rfl]
  simp only [before0_0, before0_1, before0_2, before0_3, before0_4, after0_0, after0_1, after0_2, after0_3, after0_4, after0_5, after0_6]
  unfold ΦT owns
  iintro ⟨⟨⟨⟨%d8, %f8, -, S0⟩, ⟨%d9, %f9, -, S1⟩, ⟨%d10, %f10, -, S2⟩, ⟨%d11, %f11, -, S3⟩⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩⟩
  iapply ((runA (F := F) c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11).2 f5 f6 f8 f9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, ⟨%g8, S0⟩, S1, ⟨%g10, S2⟩, ⟨%g11, S3⟩⟩
  isplitl [S0 S1 S2 S3 Hg]
  · isplitl [S0 S1 S2 S3]
    · isplitl [S0]; · iexists _; iapply (owns_intro c scM0_0 g8 _ rfl); iexact S0
      isplitl [S1]
      · iapply (owns_intro c scM0_1 _ _ ?_)
        swap; · iexact S1
        · have h := read_of_pieces scM0_1.view scM0_1.view.junk _ _ (xppieces (ms0_0 t0_0) (ms0_1 t0_0) scM0_0 f0 f1) (xpcover (ms0_0 t0_0) (ms0_1 t0_0) scM0_0 f0 f1)
          rw [e0, e1] at h
          rw [runA_snd]
          exact h
      isplitl [S2]; · iexists _; iapply (owns_intro c scM0_2 g10 _ rfl); iexact S2
      iexists _; iapply (owns_intro c scM0_3 g11 _ rfl); iexact S3
    iexact Hg
  isplitl [HW]
  · iexists W; isplitr; · ipureintro; exact fun _ _ => Or.inl trivial
    iexact HW
  isplitl [H0]; · iapply (owns_intro c (ms0_0 t0_0) f0 _ e0); iexact H0
  isplitl [H1]; · iapply (owns_intro c (ms0_1 t0_0) f1 _ e1); iexact H1
  isplitl [H2]; · iapply (owns_intro c (ms0_2 t0_0) f2 _ e2); iexact H2
  isplitl [H3]; · iapply (owns_intro c (ms0_3 t0_0) f3 _ e3); iexact H3
  isplitl [H4]; · iapply (owns_intro c (ms0_4 t0_0) f4 _ e4); iexact H4
  isplitl [H5]
  · iapply (owns_intro c (ms0_5 t0_0) _ _ ?_)
    · have h := read_of_pieces (ms0_5 t0_0).view f5 _ _ (ypieces_first c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11)
        (ycover_first c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11)
      rw [e0, e1, e2, e3, e4] at h
      exact h
    iexact H5
  iapply (post6_first m c _ ?_)
  swap; · iexact H6
  · have h := read_of_pieces (ms0_6 t0_0).view (ms0_6 t0_0).view.junk _ _ (xrpieces (ms0_0 t0_0) (ms0_1 t0_0) scM0_0 f0 f1) (xrcover (ms0_0 t0_0) (ms0_1 t0_0) scM0_0 f0 f1)
    rw [e0, e1] at h
    rw [runA_snd]
    exact h

/-- The body does what it should at every point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

/-- The body that the launch calls at point `t`. -/
theorem defs₀_row (t : Fin cfg0.N) :
    defs₀ (F := F) .tc cfg0.body (cfg0.bodyArgs t (cfg0.slots t)) = bodyAt0 t := by
  unfold defs₀; rw [Defs.onTc_tc]

/-- The body's obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- After the last point the scratch may be anything. -/
theorem Phi_out (c : Dev nD) : (dats m 0 c).Φ (Fin.last cfg0.N) ⊢ Pipeline.ΦA spec0 c := by
  rw [Phi_pos m c (Fin.last cfg0.N) (by show cfg0.N ≠ 0; rw [show cfg0.N = 14 from N_0]; decide), PhiA_eq]
  unfold ΦT owns
  iintro ⟨⟨S0, S1, S2, S3⟩, Hg⟩
  isplitl [S0 S1 S2 S3]
  · isplitl [S0]; · iexact S0
    isplitl [S1]; · iexists _; iexact S1
    isplitl [S2]; · iexact S2
    iexact S3
  iexact Hg

set_option backward.isDefEq.respectTransparency.types false in
/-- The run: the arrays end at what the pipeline writes back, and every counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => .rfl) (hout := Phi_out m)

/-- The frame: the program runs, its arguments end unchanged, every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
    (((h.1 c).2 main_arg1 (Pipeline.mem_restRefs_of main_arg1 (by decide) (by decide))).trans (W_main_arg1 m (dats m) c)),
    (((h.1 c).2 main_arg2 (Pipeline.mem_restRefs_of main_arg2 (by decide) (by decide))).trans (W_main_arg2 m (dats m) c)),
    (((h.1 c).2 main_arg3 (Pipeline.mem_restRefs_of main_arg3 (by decide) (by decide))).trans (W_main_arg3 m (dats m) c)),
    (((h.1 c).2 main_arg4 (Pipeline.mem_restRefs_of main_arg4 (by decide) (by decide))).trans (W_main_arg4 m (dats m) c))⟩, h.2⟩) (run_main m ρ)

end Cert.KernelIdeal.Hand

end
-- ==== Proof.KRunA.lean ====
module

public import proofs.«01_k».proof.Proof.Gen.Kernel.Frame
public import proofs.«01_k».proof.Proof.Gen.Kernel.Skeleton
public import proofs.«01_k».proof.Proof.Gen.Kernel.Loops
public import Idealize.ShloMosaic.Lib.Exec

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 1000000 in
/-- The body at the first point, run on any contents of its buffers: the pieces it writes into the block of the second
    result, into the first result, and into the scratch that carries the permuted activations to the later points. -/
def runA (c : Dev nD) (i : grid0.Coords) (hc : k0_cond1 i = 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (G10 : BufTy.Contents (Elt F) arg10.view.ty) (G11 : BufTy.Contents (Elt F) arg11.view.ty) :
    { L : List (View.Piece (Elt F) S128x1024 .bf16) × List (View.Piece (Elt F) S128x4096 .bf16) × List (View.Piece (Elt F) S4096x128 .bf16) //
      ∀ (f6 : BufTy.Contents (Elt F) arg6.view.ty) (f7 : BufTy.Contents (Elt F) arg7.view.ty) (f8 : BufTy.Contents (Elt F) arg8.view.ty) (f9 : BufTy.Contents (Elt F) arg9.view.ty) (K : PUnit → sProp 𝕄),
        iprop((arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} G10)
            ∗ (arg11.view.loc (c : Thread nD τ) ↦[arg11.view.set]{fullShare} G11)
            ∗ (iprop((arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} arg6.view.writes (Elt F) f6 L.1)
            ∗ (arg7.view.loc (c : Thread nD τ) ↦[arg7.view.set]{fullShare} arg7.view.writes (Elt F) arg7.view.junk L.2.1)
            ∗ (∃ f, arg8.view.loc (c : Thread nD τ) ↦[arg8.view.set]{fullShare} f)
            ∗ (arg9.view.loc (c : Thread nD τ) ↦[arg9.view.set]{fullShare} arg9.view.writes (Elt F) arg9.view.junk L.2.2)
            ∗ (∃ f, arg10.view.loc (c : Thread nD τ) ↦[arg10.view.set]{fullShare} f)
            ∗ (∃ f, arg11.view.loc (c : Thread nD τ) ↦[arg11.view.set]{fullShare} f)) -∗ K ⟨⟩))
          ⊢ wp frame (wpE (defs₀ (F := F)) Variants.none c none) Set.univ
              (cc0_qtip_tc i arg1 harg1 arg2 harg2 arg3 harg3 arg4 harg4 arg5 harg5 arg6 harg6 arg7 harg7 arg8 harg8 arg9 harg9 arg10 harg10 arg11 harg11) K } := by
  refine ⟨(?_, ?_, ?_), fun f6 f7 f8 f9 K => ?run⟩
  case run =>
    simp only [cc0_qtip_tc_eq_skeleton]; unfold cc0_qtip_tc_skel
    iintro ⟨H1, H2, H3, H4, H5, H6, H7, H8, H9, H10, H11, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    iexists _; iexact H11

end Cert.Kernel.Hand

end
-- ==== Proof.KRunB.lean ====
module

public import proofs.«01_k».proof.Proof.Gen.Kernel.Frame
public import proofs.«01_k».proof.Proof.Gen.Kernel.Skeleton
public import proofs.«01_k».proof.Proof.Gen.Kernel.Loops
public import Idealize.ShloMosaic.Lib.Exec

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The body at a point after the first. -/
def runB (c : Dev nD) (i : grid0.Coords) (hc : k0_cond1 i ≠ 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : BufTy.Contents (Elt F) arg3.view.ty) (X4 : BufTy.Contents (Elt F) arg4.view.ty) (X5 : BufTy.Contents (Elt F) arg5.view.ty)
    (X9 : BufTy.Contents (Elt F) arg9.view.ty) (G10 : BufTy.Contents (Elt F) arg10.view.ty) (G11 : BufTy.Contents (Elt F) arg11.view.ty) :
    { L6 : List (View.Piece (Elt F) S128x1024 .bf16) //
      ∀ (f6 : BufTy.Contents (Elt F) arg6.view.ty) (K : PUnit → sProp 𝕄),
        iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} f6)
            ∗ (arg9.view.loc (c : Thread nD τ) ↦[arg9.view.set]{fullShare} X9)
            ∗ (arg10.view.loc (c : Thread nD τ) ↦[arg10.view.set]{fullShare} G10)
            ∗ (arg11.view.loc (c : Thread nD τ) ↦[arg11.view.set]{fullShare} G11)
            ∗ (iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} arg6.view.writes (Elt F) f6 L6)
            ∗ (arg9.view.loc (c : Thread nD τ) ↦[arg9.view.set]{fullShare} X9)
            ∗ (∃ f, arg10.view.loc (c : Thread nD τ) ↦[arg10.view.set]{fullShare} f)
            ∗ (∃ f, arg11.view.loc (c : Thread nD τ) ↦[arg11.view.set]{fullShare} f)) -∗ K ⟨⟩))
          ⊢ wp frame (wpE (defs₀ (F := F)) Variants.none c none) Set.univ
              (cc0_qtip_tc i arg1 harg1 arg2 harg2 arg3 harg3 arg4 harg4 arg5 harg5 arg6 harg6 arg7 harg7 arg8 harg8 arg9 harg9 arg10 harg10 arg11 harg11) K } := by
  refine ⟨?_, fun f6 K => ?run⟩
  case run =>
    simp only [cc0_qtip_tc_eq_skeleton]; unfold cc0_qtip_tc_skel
    iintro ⟨H3, H4, H5, H6, H9, H10, H11, Hk⟩
    sl_exec
    sl_step
    iapply Hk
    isplitl [H3]; · iexact H3
    isplitl [H4]; · iexact H4
    isplitl [H5]; · iexact H5
    isplitl [H6]; · iexact H6
    isplitl [H9]; · iexact H9
    isplitl [H10]; · iexists _; iexact H10
    iexists _; iexact H11

end Cert.Kernel.Hand

end
-- ==== Proof.KOps.lean ====
module

public import proofs.«01_k».proof.Proof.Gen.Kernel.Frame
public import proofs.«01_k».proof.Proof.Gen.Kernel.Skeleton
public import proofs.«01_k».proof.Proof.Gen.Kernel.Loops
public import Idealize.ShloMosaic.Lib.Pointwise.Index
public import Idealize.ShloMosaic.Lib.Pipeline.ReadBack
public import Idealize.ShloMosaic.Lib.Exec

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! ## The blocks of a two-axis array -/

/-- The array whose block `(a, b)` of `r` rows and `c` columns is `f a b`. -/
def glue {R C : ℕ} (r c : ℕ) (hr : 0 < r) (hc : 0 < c) {α : Type} (f : ℕ → ℕ → (⟨2, ![r, c]⟩ : Shape).Idx → α) :
    (⟨2, ![R, C]⟩ : Shape).Idx → α :=
  fun y => f ((y 0).val / r) ((y 1).val / c) (ix2 ⟨(y 0).val % r, Nat.mod_lt _ hr⟩ ⟨(y 1).val % c, Nat.mod_lt _ hc⟩)

/-- Read through a rectangle at a multiple of the block's extents, the glued array is that block. -/
theorem glue_emb {R C r c : ℕ} (hr : 0 < r) (hc : 0 < c) {α : Type} (f : ℕ → ℕ → (⟨2, ![r, c]⟩ : Shape).Idx → α)
    (off : Fin 2 → ℕ) (inb : ∀ a, off a + (![r, c] : Fin 2 → ℕ) a ≤ (⟨2, ![R, C]⟩ : Shape).size a)
    (h0 : off 0 % r = 0) (h1 : off 1 % c = 0) (x : (⟨2, ![r, c]⟩ : Shape).Idx) :
    f (off 0 / r) (off 1 / c) x
      = glue (R := R) (C := C) r c hr hc f ((Rect.unit (s := ⟨2, ![R, C]⟩) off ![r, c] inb).emb x) := by
  have e0 : (((Rect.unit (s := ⟨2, ![R, C]⟩) off ![r, c] inb).emb x) 0).val = off 0 + (x 0).val := by
    rw [Rect.emb_apply]; simp
  have e1 : (((Rect.unit (s := ⟨2, ![R, C]⟩) off ![r, c] inb).emb x) 1).val = off 1 + (x 1).val := by
    rw [Rect.emb_apply]; simp
  have l0 : (x 0).val < r := (x 0).isLt
  have l1 : (x 1).val < c := (x 1).isLt
  unfold glue
  have d0 : (off 0 + (x 0).val) / r = off 0 / r := by
    obtain ⟨k, hk⟩ := Nat.dvd_of_mod_eq_zero h0
    rw [hk, Nat.mul_add_div hr, Nat.div_eq_of_lt l0, Nat.mul_div_cancel_left _ hr, Nat.add_zero]
  have d1 : (off 1 + (x 1).val) / c = off 1 / c := by
    obtain ⟨k, hk⟩ := Nat.dvd_of_mod_eq_zero h1
    rw [hk, Nat.mul_add_div hc, Nat.div_eq_of_lt l1, Nat.mul_div_cancel_left _ hc, Nat.add_zero]
  have m0 : (off 0 + (x 0).val) % r = (x 0).val := by
    obtain ⟨k, hk⟩ := Nat.dvd_of_mod_eq_zero h0
    rw [hk, Nat.mul_add_mod, Nat.mod_eq_of_lt l0]
  have m1 : (off 1 + (x 1).val) % c = (x 1).val := by
    obtain ⟨k, hk⟩ := Nat.dvd_of_mod_eq_zero h1
    rw [hk, Nat.mul_add_mod, Nat.mod_eq_of_lt l1]
  simp only [e0, e1, d0, d1, m0, m1]
  congr 1
  funext a
  match a with
  | ⟨0, _⟩ => rfl
  | ⟨1, _⟩ => rfl

/-- A block of the glued array, stored, is one of its pieces. -/
theorem piecesOf_cons {e : EltTy} {R C r c : ℕ} (hr : 0 < r) (hc : 0 < c) (f : ℕ → ℕ → (⟨2, ![r, c]⟩ : Shape).Idx → Elt F e)
    {off : Fin 2 → ℕ} {inb : ∀ a, off a + (![r, c] : Fin 2 → ℕ) a ≤ (⟨2, ![R, C]⟩ : Shape).size a}
    {p : (⟨2, ![r, c]⟩ : Shape).Idx → Elt F e} {L : List (View.Piece (Elt F) ⟨2, ![R, C]⟩ e)}
    (h0 : off 0 % r = 0) (h1 : off 1 % c = 0) (hp : p = f (off 0 / r) (off 1 / c))
    (hL : View.PiecesOf (glue r c hr hc f) L) :
    View.PiecesOf (glue r c hr hc f) (⟨Rect.unit (s := ⟨2, ![R, C]⟩) off ![r, c] inb, p⟩ :: L) :=
  ⟨fun x => (congrFun hp x).trans (glue_emb hr hc f off inb h0 h1 x), hL⟩

/-- Stores that are the blocks of one array and cover it leave that array, whatever was there before. -/
theorem read_of_pieces {κ : Kind} {sp : Space} {s : Shape} {e : EltTy} (v : View sig κ sp s e) (f : v.ty.Contents (Elt F))
    (G : s.Idx → Elt F e) (L : List (View.Piece (Elt F) s e)) (h : View.PiecesOf G L)
    (hc : ∀ y : s.Idx, ∃ p ∈ L, y ∈ p.1.set) : v.read (Elt F) (v.writes (Elt F) f L) = G := by
  rw [View.read_writes_of_cover v f v v.junk L hc]
  funext y
  rw [View.read_writes_junk_apply_eq_canon, View.canon_apply_of_pieces G L h.mem y (hc y)]

/-! ## The Hadamard transform of 1024 values in eight parts of 128 -/

/-- The 128 × 128 Hadamard matrix. -/
abbrev had : FVec F S128x128 .bf16 := k0_pay2

/-- A product of a 128 × 128 tile of `bf16` values with that matrix. -/
def dotH (a : FVec F S128x128 .bf16) : FVec F S128x128 .f32 :=
  matmul dot_S128x128_S128x128_S128x128_1_0_0_1_n_n none a had (constant S128x128 .f32 0x00000000#32)

/-- What is left of `z` after its `bf16` rounding. -/
def rest (z : FVec F S128x128 .f32) : FVec F S128x128 .f32 :=
  subf z (extf .f32 (truncf .bf16 z bitsLt_bf16_f32) bitsLt_bf16_f32)

/-- `z` times the matrix, `z` split in three `bf16` values, and the sum scaled by `1/32`. -/
def hadMul (z : FVec F S128x128 .f32) : FVec F S128x128 .f32 :=
  mulf (addf (addf (dotH (truncf .bf16 z bitsLt_bf16_f32)) (dotH (truncf .bf16 (rest z) bitsLt_bf16_f32)))
      (dotH (truncf .bf16 (rest (rest z)) bitsLt_bf16_f32)))
    (broadcast S128x128 (Scalar.ofBits .f32 0x3D000000#32))

/-- The three steps of the butterfly on eight parts: part `i` meets part `i + 1`, `i + 2`, `i + 4`. -/
def bf1 (p : Fin 8 → FVec F S128x128 .f32) : Fin 8 → FVec F S128x128 .f32
  | 0 => addf (p 0) (p 1) | 1 => subf (p 0) (p 1) | 2 => addf (p 2) (p 3) | 3 => subf (p 2) (p 3)
  | 4 => addf (p 4) (p 5) | 5 => subf (p 4) (p 5) | 6 => addf (p 6) (p 7) | 7 => subf (p 6) (p 7)
@[inherit_doc bf1] def bf2 (p : Fin 8 → FVec F S128x128 .f32) : Fin 8 → FVec F S128x128 .f32
  | 0 => addf (p 0) (p 2) | 1 => addf (p 1) (p 3) | 2 => subf (p 0) (p 2) | 3 => subf (p 1) (p 3)
  | 4 => addf (p 4) (p 6) | 5 => addf (p 5) (p 7) | 6 => subf (p 4) (p 6) | 7 => subf (p 5) (p 7)
@[inherit_doc bf1] def bf4 (p : Fin 8 → FVec F S128x128 .f32) : Fin 8 → FVec F S128x128 .f32
  | 0 => addf (p 0) (p 4) | 1 => addf (p 1) (p 5) | 2 => addf (p 2) (p 6) | 3 => addf (p 3) (p 7)
  | 4 => subf (p 0) (p 4) | 5 => subf (p 1) (p 5) | 6 => subf (p 2) (p 6) | 7 => subf (p 3) (p 7)
/-- The butterfly on eight parts. -/
def bfly (p : Fin 8 → FVec F S128x128 .f32) : Fin 8 → FVec F S128x128 .f32 := bf4 (bf2 (bf1 p))

/-! ## The rotated activations -/

/-- A block of 128 columns lies inside the array. -/
theorem inb_col (n : ℕ) (N b : ℕ) (hn : 128 * n + 128 ≤ N) :
    ∀ a, (![0, 128 * n] : Fin 2 → ℕ) a + (![b, 128] : Fin 2 → ℕ) a ≤ (⟨2, ![b, N]⟩ : Shape).size a := by
  intro a; fin_cases a <;> simp <;> omega
/-- A block of rows lies inside the array. -/
theorem inb_row (n : ℕ) (N : ℕ) (r : ℕ) (hn : r * n + r ≤ N) :
    ∀ a, (![r * n, 0] : Fin 2 → ℕ) a + (![r, 128] : Fin 2 → ℕ) a ≤ (⟨2, ![N, 128]⟩ : Shape).size a := by
  intro a; fin_cases a <;> simp <;> omega

/-- Columns `128 n …` of the signed activations. -/
def xpart (x : S128x4096.Idx → Elt F .bf16) (su : S1x4096.Idx → Elt F .f32) (n : Fin 32) : FVec F S128x128 .f32 :=
  mulf (extf .f32 (shapeCast S128x128 (fun j => x ((Rect.unit (s := S128x4096) ![0, 128 * n.val] S128x128.size (inb_col n.val 4096 128 (by omega))).idx j)) shapeCasts_S128x128_S128x128) bitsLt_bf16_f32)
    (broadcastTo S128x128 (shapeCast S1x128 (fun j => su ((Rect.unit (s := S1x4096) ![0, 128 * n.val] S1x128.size (inb_col n.val 4096 1 (by omega))).idx j)) shapeCasts_S1x128_S1x128) broadcasts_S1x128_S128x128)

/-- Columns `128 n …` of the rotated activations. -/
def xrot (x : S128x4096.Idx → Elt F .bf16) (su : S1x4096.Idx → Elt F .f32) (n : ℕ) : FVec F S128x128 .bf16 :=
  truncf .bf16 (hadMul (bfly (fun q => xpart x su (Fin.ofNat 32 (8 * (n / 8) + q.val))) (Fin.ofNat 8 n))) bitsLt_bf16_f32

/-- The rotated activations. -/
def XR (x : S128x4096.Idx → Elt F .bf16) (su : S1x4096.Idx → Elt F .f32) : S128x4096.Idx → Elt F .bf16 :=
  glue (R := 128) (C := 4096) 128 128 (by decide) (by decide) fun _ n => xrot x su n

/-- The rotated activations transposed, in `f32`. -/
def XT (x : S128x4096.Idx → Elt F .bf16) (su : S1x4096.Idx → Elt F .f32) : S4096x128.Idx → Elt F .f32 :=
  glue (R := 4096) (C := 128) 128 128 (by decide) (by decide) fun n _ =>
    shapeCast S128x128 (transpose S128x128 [1, 0] (extf .f32 (xrot x su n) bitsLt_bf16_f32) transposes_S128x128_p1_0_S128x128) shapeCasts_S128x128_S128x128

/-- The strided rows `j, j + 16, …` lie inside the array. -/
theorem inb_stride (j : Fin 16) : ∀ a, (![256, 128] : Fin 2 → ℕ) a = 0 ∨ (![j.val, 0] : Fin 2 → ℕ) a + (![16, 1] : Fin 2 → ℕ) a * ((![256, 128] : Fin 2 → ℕ) a - 1) < (⟨2, ![4096, 128]⟩ : Shape).size a := by
  intro a; fin_cases a <;> simp <;> omega

/-- The permuted transposed activations: block `j` of 256 rows holds the rows `j, j + 16, …`. -/
def XP (xt : S4096x128.Idx → Elt F .f32) : S4096x128.Idx → Elt F .bf16 :=
  glue (R := 4096) (C := 128) 256 128 (by decide) (by decide) fun j _ =>
    k0_pay267 (fun i => xt ((⟨![(Fin.ofNat 16 j).val, 0], S256x128.size, ![16, 1], inb_stride (Fin.ofNat 16 j)⟩ : LoadRect S4096x128).idx i))

/-! ## The decoded weights -/

/-- One decoded value of each 16-bit state. -/
def decode (s : IVec S16x256 32) : FVec F S16x256 .bf16 :=
  have v : IVec S16x256 32 := addi (muli s (broadcast S16x256 89226354#32)) (broadcast S16x256 64248484#32)
  have hi : IVec S16x256 32 := xori (andi (shrsi v (broadcast S16x256 3#32)) (broadcast S16x256 2181029888#32)) (broadcast S16x256 1064042496#32)
  have lo : IVec S16x256 32 := xori (andi (shrsi (shli v (broadcast S16x256 16#32)) (broadcast S16x256 3#32)) (broadcast S16x256 2181029888#32)) (broadcast S16x256 1064042496#32)
  shapeCast S16x256 (truncf .bf16 (addf (bitcastToFloat .f32 lo) (bitcastToFloat .f32 hi)) bitsLt_bf16_f32) shapeCasts_S16x256_S16x256

/-- The states of field `f` of the words `p`: sixteen bits from bit `16 - 2 f` up. -/
def state (p : IVec S16x256 32) : ℕ → IVec S16x256 32
  | 0 => shrui p (broadcast S16x256 16#32)
  | f + 1 => andi (shrui p (broadcast S16x256 (BitVec.ofNat 32 (14 - 2 * f)))) (broadcast S16x256 65535#32)

/-- The words of half `h`: each code with the next one below it. -/
def words (a : Vec F S1x32x256 .i16) : ℕ → IVec S16x256 32
  | 0 => k0_pay286 a
  | _ + 1 => k0_pay287 a

/-- The decoded tile of block row `a`, half and field `n = 8 h + f`. -/
def wtile (a : Vec F S1x32x256 .i16) (n : ℕ) : FVec F S16x256 .bf16 := decode (state (words a (n / 8)) (n % 8))

/-- The codes of block row `b` of trip `k`. -/
def slab (x3 : S64x32x256.Idx → Elt F .i16) (k : Fin k0_t1_loop.trips) (b : Fin 8) : Vec F S1x32x256 .i16 :=
  fun j => x3 ((Rect.unit (s := S64x32x256) (k0_off1 k (BitVec.ofNat 32 b.val)) S1x32x256.size (k0_off1_inb k b)).idx j)

/-- The decoded weights of trip `k`. -/
def W (x3 : S64x32x256.Idx → Elt F .i16) (k : Fin k0_t1_loop.trips) : S128x4096.Idx → Elt F .bf16 :=
  glue (R := 128) (C := 4096) 16 256 (by decide) (by decide) fun b n => wtile (slab x3 k (Fin.ofNat 8 b)) n

/-- The products of trip `k`: 128 output rows by 128 tokens. -/
def chunk (x3 : S64x32x256.Idx → Elt F .i16) (xp : S4096x128.Idx → Elt F .bf16) (k : Fin k0_t1_loop.trips) : FVec F S128x128 .f32 :=
  k0_pay613 (W x3 k) xp

/-- All the products of a point. -/
def ACC (x3 : S64x32x256.Idx → Elt F .i16) (xp : S4096x128.Idx → Elt F .bf16) : S1024x128.Idx → Elt F .f32 :=
  glue (R := 1024) (C := 128) 128 128 (by decide) (by decide) fun k _ => chunk x3 xp ⟨k % 8, Nat.mod_lt _ (by decide)⟩

/-! ## The result's block -/

/-- Part `q` of the scaled products, tokens by rows. -/
def apart (acc : S1024x128.Idx → Elt F .f32) (rs : S1x1024.Idx → Elt F .f32) (q : Fin 8) : FVec F S128x128 .f32 :=
  mulf (transpose S128x128 [1, 0] (fun j => acc ((Rect.unit (s := S1024x128) ![128 * q.val, 0] S128x128.size (inb_row q.val 1024 128 (by omega))).idx j)) transposes_S128x128_p1_0_S128x128)
    (broadcastTo S128x128 (shapeCast S1x128 (fun j => rs ((Rect.unit (s := S1x1024) ![0, 128 * q.val] S1x128.size (inb_col q.val 1024 1 (by omega))).idx j)) shapeCasts_S1x128_S1x128) broadcasts_S1x128_S128x128)

/-- The block of the first result: the products scaled, transformed, signed and rounded. -/
def Y (acc : S1024x128.Idx → Elt F .f32) (rs sv : S1x1024.Idx → Elt F .f32) : S128x1024.Idx → Elt F .bf16 :=
  glue (R := 128) (C := 1024) 128 128 (by decide) (by decide) fun _ q =>
    truncf .bf16 (mulf (hadMul (bfly (apart acc rs) (Fin.ofNat 8 q)))
      (broadcastTo S128x128 (shapeCast S1x128 (fun j => sv ((Rect.unit (s := S1x1024) ![0, 128 * (Fin.ofNat 8 q).val] S1x128.size (inb_col (Fin.ofNat 8 q).val 1024 1 (by have := (Fin.ofNat 8 q).isLt; omega))).idx j)) shapeCasts_S1x128_S1x128) broadcasts_S1x128_S128x128)) bitsLt_bf16_f32

end Cert.Kernel.Hand

end
-- ==== Proof.KPieces.lean ====
module

public import proofs.«01_k».proof.Proof.Gen.Kernel.Frame
public import proofs.«01_k».proof.Proof.Gen.Kernel.Skeleton
public import proofs.«01_k».proof.Proof.Gen.Kernel.Loops
public import proofs.«01_k».proof.Proof.KRunA
public import proofs.«01_k».proof.Proof.KRunB
public import Idealize.ShloMosaic.Lib.Exec
public import proofs.«01_k».proof.Proof.KOps

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 1000000 in
/-- Every store into the weights' scratch in trip `k` is a block of the decoded weights. -/
theorem wpieces (arg3 : Memref sig .tc .vmem S64x32x256 .i16) (X3 : arg3.view.ty.Contents (Elt F)) (k : Fin k0_t1_loop.trips) :
    View.PiecesOf (W (arg3.view.read (Elt F) X3) k) (trip_k0_t1.sl.HW_arg10_128 arg3 X3 k) := by
  unfold trip_k0_t1.sl.HW_arg10_128 W
  iterate 128
    refine piecesOf_cons _ _ _ rfl rfl ?_ ?_
    · rfl
  trivial

/-- Those stores cover the scratch. -/
theorem wcover (arg3 : Memref sig .tc .vmem S64x32x256 .i16) (X3 : arg3.view.ty.Contents (Elt F)) (k : Fin k0_t1_loop.trips) :
    ∀ y : S128x4096.Idx, ∃ p ∈ trip_k0_t1.sl.HW_arg10_128 arg3 X3 k, y ∈ p.1.set :=
  View.cover_of_tiled _ ![16, 256] (by sl_kernel_rfl)

/-- Every store into the second result's window at the first point is a block of the rotated activations. -/
theorem xrpieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XR (arg1.view.read (Elt F) X1) (arg2.view.read (Elt F) X2)) (runA.sl.H7_32 arg1 arg2 X1 X2) := by
  unfold runA.sl.H7_32 XR
  iterate 32
    refine piecesOf_cons _ _ _ rfl rfl ?_ ?_
    · rfl
  trivial

/-- The stores into the second result's window cover it. -/
theorem xrcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S128x4096.Idx, ∃ p ∈ runA.sl.H7_32 arg1 arg2 X1 X2, y ∈ p.1.set :=
  View.cover_of_tiled _ ![128, 128] (by sl_kernel_rfl)

/-- Every store into the transposed scratch is a block of the transposed activations. -/
theorem xtpieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XT (arg1.view.read (Elt F) X1) (arg2.view.read (Elt F) X2)) (runA.sl.H8_32 arg1 arg2 X1 X2) := by
  unfold runA.sl.H8_32 XT
  iterate 32
    refine piecesOf_cons _ _ _ rfl rfl ?_ ?_
    · rfl
  trivial

/-- The stores into the transposed scratch cover it. -/
theorem xtcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S4096x128.Idx, ∃ p ∈ runA.sl.H8_32 arg1 arg2 X1 X2, y ∈ p.1.set :=
  View.cover_of_tiled _ ![128, 128] (by sl_kernel_rfl)

attribute [local irreducible] runA.sl.H8_32 in
/-- Every store into the permuted scratch is a block of the permuted activations. -/
theorem xppieces0 (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XP (arg8.view.read (Elt F) (arg8.view.writes (Elt F) arg8.view.junk (runA.sl.H8_32 arg1 arg2 X1 X2)))) (runA.sl.H9_16 arg1 arg2 arg8 X1 X2) := by
  unfold runA.sl.H9_16 XP
  iterate 16
    refine piecesOf_cons _ _ _ rfl rfl ?_ ?_
    · rfl
  trivial

/-- Every store into the permuted scratch is a block of the permuted rotated activations. -/
theorem xppieces (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    View.PiecesOf (XP (XT (arg1.view.read (Elt F) X1) (arg2.view.read (Elt F) X2))) (runA.sl.H9_16 arg1 arg2 arg8 X1 X2) := by
  have h := xppieces0 arg1 arg2 arg8 X1 X2
  rw [read_of_pieces _ _ _ _ (xtpieces arg1 arg2 arg8 X1 X2) (xtcover arg1 arg2 arg8 X1 X2)] at h
  exact h

/-- The stores into the permuted scratch cover it. -/
theorem xpcover (arg1 : Memref sig .tc .vmem S128x4096 .bf16) (arg2 : Memref sig .tc .vmem S1x4096 .f32) (arg8 : Memref sig .tc .vmem S4096x128 .f32)
    (X1 : arg1.view.ty.Contents (Elt F)) (X2 : arg2.view.ty.Contents (Elt F)) :
    ∀ y : S4096x128.Idx, ∃ p ∈ runA.sl.H9_16 arg1 arg2 arg8 X1 X2, y ∈ p.1.set :=
  View.cover_of_tiled _ ![256, 128] (by sl_kernel_rfl)
-- ==== Proof.KLoop.lean ====
module

public import proofs.«01_k».proof.Proof.Gen.Kernel.Frame
public import proofs.«01_k».proof.Proof.Gen.Kernel.Skeleton
public import proofs.«01_k».proof.Proof.Gen.Kernel.Loops
public import proofs.«01_k».proof.Proof.KRunA
public import proofs.«01_k».proof.Proof.KRunB
public import Idealize.ShloMosaic.Lib.Exec
public import proofs.«01_k».proof.Proof.KOps
public import proofs.«01_k».proof.Proof.KPieces

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- Reading the whole of a matrix gives the matrix. -/
theorem idx_whole2 {a b : ℕ} (inb : ∀ d, (![0, 0] : Fin 2 → ℕ) d + (![a, b] : Fin 2 → ℕ) d ≤ (⟨2, ![a, b]⟩ : Shape).size d)
    {α : Type} (G : (⟨2, ![a, b]⟩ : Shape).Idx → α) :
    (fun j => G ((Rect.unit (s := ⟨2, ![a, b]⟩) ![0, 0] ![a, b] inb).toLoadRect.idx j)) = G := by
  funext j
  congr 1
  funext d
  apply Fin.ext
  match d with
  | ⟨0, _⟩ => simp [LoadRect.idx_apply]
  | ⟨1, _⟩ => simp [LoadRect.idx_apply]

/-- Step `k` of the loop stores from row `128 k` on. -/
theorem k0_off2_row : ∀ k : Fin k0_t1_loop.trips, k0_off2 k 0 = 128 * k.val := by decide
/-- Step `k` of the loop stores from the first column on. -/
theorem k0_off2_col : ∀ k : Fin k0_t1_loop.trips, k0_off2 k 1 = 0 := by decide

/-- What trip `k` stores into the products' scratch, whatever the scratches held. -/
theorem trip_acc (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (k : Fin k0_t1_loop.trips) (f10 f11) :
    ∃ inb, (tripL_k0_t1 (F := F) Variants.none c none i arg1 harg1 arg2 harg2 arg3 harg3 arg4 harg4 arg5 harg5 arg6 harg6 arg7 harg7 arg8 harg8 arg9 harg9 arg10 harg10 arg11 harg11 X3 X9 k f10 f11).2
      = [⟨Rect.unit (s := S1024x128) (k0_off2 k) ![128, 128] inb, chunk (arg3.view.read (Elt F) X3) (arg9.view.read (Elt F) X9) k⟩] := by
  unfold tripL_k0_t1 trip_k0_t1
  dsimp only
  have hw : trip_k0_t1.sl.v4072 arg3 arg10 X3 k = W (arg3.view.read (Elt F) X3) k := by
    rw [← read_of_pieces arg10.view arg10.view.junk _ _ (wpieces arg3 X3 k) (wcover arg3 X3 k)]
    exact idx_whole2 inb_S128x4096_S128x4096_0_0 _
  have hx : View.readAt (Elt F) arg9.view (Rect.unit ![0, 0] ![4096, 128] inb_S4096x128_S4096x128_0_0).toLoadRect X9 = arg9.view.read (Elt F) X9 :=
    idx_whole2 inb_S4096x128_S4096x128_0_0 _
  rw [hw, hx]
  exact ⟨_, rfl⟩

/-- After the trips before `n`, the stores into the products' scratch are blocks of all the products, and cover the rows before `128 n`. -/
theorem acc_upto (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (G10 G11) (n : ℕ) (hn : n ≤ k0_t1_loop.trips) :
    View.PiecesOf (ACC (arg3.view.read (Elt F) X3) (arg9.view.read (Elt F) X9))
        (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2
      ∧ ∀ y : S1024x128.Idx, (y 0).val < 128 * n →
        ∃ p ∈ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2, y ∈ p.1.set := by
  induction n with
  | zero => exact ⟨trivial, fun y h => absurd h (by omega)⟩
  | succ n ih =>
    obtain ⟨ih, ihc⟩ := ih (by omega)
    have hk : n < 8 := hn
    obtain ⟨inb, e⟩ := trip_acc c i arg1 harg1 arg2 harg2 arg3 harg3 arg4 harg4 arg5 harg5 arg6 harg6 arg7 harg7 arg8 harg8 arg9 harg9 arg10 harg10 arg11 harg11 X3 X9 ⟨n, hn⟩
      (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).1)
      (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2)
    have hs : (pb_k0_t1 (F := F) Variants.none c none i arg1 harg1 arg2 harg2 arg3 harg3 arg4 harg4 arg5 harg5 arg6 harg6 arg7 harg7 arg8 harg8 arg9 harg9 arg10 harg10 arg11 harg11 X3 X9 G10 G11 (n + 1)).2
        = [⟨Rect.unit (s := S1024x128) (k0_off2 ⟨n, hn⟩) ![128, 128] inb, chunk (arg3.view.read (Elt F) X3) (arg9.view.read (Elt F) X9) ⟨n, hn⟩⟩]
          ++ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2 :=
      (congrArg Prod.snd (pb_k0_t1_succ (F := F) Variants.none c none i arg1 harg1 arg2 harg2 arg3 harg3 arg4 harg4 arg5 harg5 arg6 harg6 arg7 harg7 arg8 harg8 arg9 harg9 arg10 harg10 arg11 harg11 X3 X9 G10 G11 ⟨n, hn⟩)).trans
        (congrArg (· ++ (pb_k0_t1 (F := F) Variants.none c none i arg1 harg1 arg2 harg2 arg3 harg3 arg4 harg4 arg5 harg5 arg6 harg6 arg7 harg7 arg8 harg8 arg9 harg9 arg10 harg10 arg11 harg11 X3 X9 G10 G11 n).2) e)
    rw [hs]
    have r0 := k0_off2_row ⟨n, hn⟩
    have c0 := k0_off2_col ⟨n, hn⟩
    dsimp only at r0
    refine ⟨piecesOf_cons (r := 128) (c := 128) _ _ _ (by rw [r0]; omega) (by rw [c0]) ?_ ih, fun y hy => ?_⟩
    · rw [r0]
      refine congrArg (chunk _ _) (Fin.ext ?_)
      show n = 128 * n / 128 % 8
      rw [Nat.mul_div_cancel_left _ (by decide), Nat.mod_eq_of_lt hk]
    · by_cases h : (y 0).val < 128 * n
      · obtain ⟨p, hp, hy⟩ := ihc y h
        exact ⟨p, List.mem_cons_of_mem _ hp, hy⟩
      · refine ⟨_, List.mem_cons_self, ?_⟩
        have y1 : (y 1).val < 128 := (y 1).isLt
        rw [Rect.mem_set_unit]
        intro d
        match d with
        | ⟨0, _⟩ => exact ⟨by show k0_off2 _ 0 ≤ _; rw [r0]; exact Nat.le_of_not_lt h, by show _ < k0_off2 _ 0 + 128; rw [r0]; show (y 0).val < _; omega⟩
        | ⟨1, _⟩ => exact ⟨by show k0_off2 _ 1 ≤ _; rw [c0]; exact Nat.zero_le _, by show _ < k0_off2 _ 1 + 128; rw [c0]; show (y 1).val < _; omega⟩

/-- After the loop the products' scratch holds all the products. -/
theorem acc_read (c : Dev nD) (i : grid0.Coords) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X9 : arg9.view.ty.Contents (Elt F)) (G10 G11) :
    arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 X3 X9 G10 G11 k0_t1_loop.trips).2)
      = ACC (arg3.view.read (Elt F) X3) (arg9.view.read (Elt F) X9) := by
  obtain ⟨h, hc⟩ := acc_upto c i arg1 harg1 arg2 harg2 arg3 harg3 arg4 harg4 arg5 harg5 arg6 harg6 arg7 harg7 arg8 harg8 arg9 harg9 arg10 harg10 arg11 harg11 X3 X9 G10 G11 k0_t1_loop.trips le_rfl
  exact read_of_pieces _ _ _ _ h fun y => hc y (y 0).isLt

attribute [local irreducible] pb_k0_t1 in
/-- Every store of the first result at a later point is a block of that result. -/
theorem ypieces_later (c : Dev nD) (i : grid0.Coords) (hc : k0_cond1 i ≠ 1#1) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X4 : arg4.view.ty.Contents (Elt F)) (X5 : arg5.view.ty.Contents (Elt F)) (X9 : arg9.view.ty.Contents (Elt F)) (G10 G11) :
    View.PiecesOf (Y (ACC (arg3.view.read (Elt F) X3) (arg9.view.read (Elt F) X9)) (arg4.view.read (Elt F) X4) (arg5.view.read (Elt F) X5))
        (runB (F := F) c i hc arg1 harg1 arg2 harg2 arg3 harg3 arg4 harg4 arg5 harg5 arg6 harg6 arg7 harg7 arg8 harg8 arg9 harg9 arg10 harg10 arg11 harg11 X3 X4 X5 X9 G10 G11).1 := by
  rw [← acc_read c i arg1 harg1 arg2 harg2 arg3 harg3 arg4 harg4 arg5 harg5 arg6 harg6 arg7 harg7 arg8 harg8 arg9 harg9 arg10 harg10 arg11 harg11 X3 X9 G10 G11]
  unfold runB Y
  dsimp only
  iterate 8
    refine piecesOf_cons _ _ _ rfl rfl ?_ ?_
    · rfl
  trivial

/-- The stores of the first result at a later point cover its block. -/
theorem ycover_later (c : Dev nD) (i : grid0.Coords) (hc : k0_cond1 i ≠ 1#1) (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X3 : arg3.view.ty.Contents (Elt F)) (X4 : arg4.view.ty.Contents (Elt F)) (X5 : arg5.view.ty.Contents (Elt F)) (X9 : arg9.view.ty.Contents (Elt F)) (G10 G11) :
    ∀ y : S128x1024.Idx, ∃ p ∈ (runB (F := F) c i hc arg1 harg1 arg2 harg2 arg3 harg3 arg4 harg4 arg5 harg5 arg6 harg6 arg7 harg7 arg8 harg8 arg9 harg9 arg10 harg10 arg11 harg11 X3 X4 X5 X9 G10 G11).1, y ∈ p.1.set :=
  View.cover_of_tiled _ ![128, 128] (by sl_kernel_rfl)

section first
variable (c : Dev nD) (i : grid0.Coords) (hc : k0_cond1 i = 1#1)
    (arg1 : Memref sig .tc .vmem S128x4096 .bf16) (harg1 : arg1.IsWhole) (arg2 : Memref sig .tc .vmem S1x4096 .f32) (harg2 : arg2.IsWhole) (arg3 : Memref sig .tc .vmem S64x32x256 .i16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S128x4096 .bf16) (harg7 : arg7.IsWhole) (arg8 : Memref sig .tc .vmem S4096x128 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S1024x128 .f32) (harg11 : arg11.IsWhole)
    (X1 : arg1.view.ty.Contents (Elt F)) (X2 : arg2.view.ty.Contents (Elt F)) (X3 : arg3.view.ty.Contents (Elt F)) (X4 : arg4.view.ty.Contents (Elt F)) (X5 : arg5.view.ty.Contents (Elt F))
    (G10 : arg10.view.ty.Contents (Elt F)) (G11 : arg11.view.ty.Contents (Elt F))

/-- The pieces of the second result's window and of the permuted scratch at the first point. -/
theorem runA_snd : (runA (F := F) c i hc arg1 harg1 arg2 harg2 arg3 harg3 arg4 harg4 arg5 harg5 arg6 harg6 arg7 harg7 arg8 harg8 arg9 harg9 arg10 harg10 arg11 harg11 X1 X2 X3 X4 X5 G10 G11).1.2 = (runA.sl.H7_32 arg1 arg2 X1 X2, runA.sl.H9_16 arg1 arg2 arg8 X1 X2) := by
  unfold runA
  rfl

attribute [local irreducible] pb_k0_t1 runA.sl.H9_16 in
/-- Every store of the first result at the first point is a block of that result. -/
theorem ypieces_first :
    View.PiecesOf (Y (ACC (arg3.view.read (Elt F) X3) (XP (XT (arg1.view.read (Elt F) X1) (arg2.view.read (Elt F) X2)))) (arg4.view.read (Elt F) X4) (arg5.view.read (Elt F) X5))
        (runA (F := F) c i hc arg1 harg1 arg2 harg2 arg3 harg3 arg4 harg4 arg5 harg5 arg6 harg6 arg7 harg7 arg8 harg8 arg9 harg9 arg10 harg10 arg11 harg11 X1 X2 X3 X4 X5 G10 G11).1.1 := by
  rw [← read_of_pieces arg9.view arg9.view.junk _ _ (xppieces arg1 arg2 arg8 X1 X2) (xpcover arg1 arg2 arg8 X1 X2)]
  rw [← acc_read c i arg1 harg1 arg2 harg2 arg3 harg3 arg4 harg4 arg5 harg5 arg6 harg6 arg7 harg7 arg8 harg8 arg9 harg9 arg10 harg10 arg11 harg11 X3 _ G10 G11]
  unfold runA Y
  dsimp only
  iterate 8
    refine piecesOf_cons _ _ _ rfl rfl ?_ ?_
    · rfl
  trivial

/-- The stores of the first result at the first point cover its block. -/
theorem ycover_first :
    ∀ y : S128x1024.Idx, ∃ p ∈ (runA (F := F) c i hc arg1 harg1 arg2 harg2 arg3 harg3 arg4 harg4 arg5 harg5 arg6 harg6 arg7 harg7 arg8 harg8 arg9 harg9 arg10 harg10 arg11 harg11 X1 X2 X3 X4 X5 G10 G11).1.1, y ∈ p.1.set :=
  View.cover_of_tiled _ ![128, 128] (by sl_kernel_rfl)

end first

end Cert.Kernel.Hand

end
-- ==== Proof.KFrame.lean ====
module

public import proofs.«01_k».proof.Proof.Gen.Kernel.Frame
public import proofs.«01_k».proof.Proof.Gen.Kernel.Skeleton
public import proofs.«01_k».proof.Proof.Gen.Kernel.Loops
public import proofs.«01_k».proof.Proof.KRunA
public import proofs.«01_k».proof.Proof.KRunB
public import Idealize.ShloMosaic.Lib.Exec
public import proofs.«01_k».proof.Proof.KOps
public import proofs.«01_k».proof.Proof.KLoop
public import proofs.«01_k».proof.Proof.Gen.Kernel.Points
public import Idealize.ShloMosaic.Lib.Pipeline.FrameBody
public import Idealize.ShloMosaic.Lib.Pipeline.TableIdle
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's operands -/

/-- Window 0's staging buffer at point `t`. -/
abbrev ms0_0 (t : Fin cfg0.N) : Memref sig .tc .vmem S128x4096 .bf16 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S1x4096 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S64x32x256 .i16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x1024 .f32 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x1024 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S128x1024 .bf16 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S128x4096 .bf16 := win0_6.stage (cfg0.slots t 6)
/-- Window 6's staging buffer is a whole buffer. -/
abbrev hs0_6 (t : Fin cfg0.N) : (ms0_6 t).IsWhole := hstage0_6 ((cfg0.slots t 6).cast nbuf0_6)
/-- Scratch buffer 0. -/
abbrev scM0_0 : Memref sig .tc .vmem S4096x128 .f32 := Memref.whole cc0_scratch0
/-- Scratch buffer 1. -/
abbrev scM0_1 : Memref sig .tc .vmem S4096x128 .bf16 := Memref.whole cc0_scratch1
/-- Scratch buffer 2. -/
abbrev scM0_2 : Memref sig .tc .vmem S128x4096 .bf16 := Memref.whole cc0_scratch2
/-- Scratch buffer 3. -/
abbrev scM0_3 : Memref sig .tc .vmem S1024x128 .f32 := Memref.whole cc0_scratch3

/-! ## What the buffers hold -/

/-- The second result: the rotated activations of the point that computes them. -/
def xrAt (c : Dev nD) : S128x4096.Idx → Elt F .bf16 := XR (iblk m c 0 t0_0) (iblk m c 1 t0_0)
/-- The permuted transposed activations, which the first point leaves for the later ones. -/
def xpAt (c : Dev nD) : S4096x128.Idx → Elt F .bf16 := XP (XT (iblk m c 0 t0_0) (iblk m c 1 t0_0))
/-- The block of the first result at point `t`. -/
def yAt (c : Dev nD) (t : Fin cfg0.N) : S128x1024.Idx → Elt F .bf16 := Y (ACC (iblk m c 2 t) (xpAt m c)) (iblk m c 3 t) (iblk m c 4 t)

/-- Between points: the permuted activations in their scratch, the other scratches at anything. -/
def ΦT (c : Dev nD) : sProp 𝕄 :=
  iprop(((∃ d, owns (c : Thread nD τ) scM0_0 fullShare d) ∗ owns (c : Thread nD τ) scM0_1 fullShare (xpAt m c)
    ∗ (∃ d, owns (c : Thread nD τ) scM0_2 fullShare d) ∗ (∃ d, owns (c : Thread nD τ) scM0_3 fullShare d)) ∗ (∃ r, prngReg c r))

/-- The scratch state before the launch: four buffers with any contents. -/
theorem PhiA_eq (c : Dev nD) : (Pipeline.ΦA spec0 c : sProp 𝕄)
    = iprop(((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)) ∗ (∃ r, prngReg c r)) := by
  unfold Pipeline.ΦA
  rw [scopedRest0_eq]
  simp only [scM0_0, scM0_1, scM0_2, scM0_3, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => xrAt m c
  Φ t := if t.val = 0 then Pipeline.ΦA spec0 c else ΦT m c
  q _ := fullShare
  owed _ := 0

/-- A window's array at the launch is its operand. -/
theorem A_eq (c : Dev nD) (w : Fin cfg0.W) : (dats m 0 c).A w = V m c (Pipeline.arrRef spec0 w) := by
  dsimp only [dats]
/-- What the body leaves in window 0. -/
theorem after0_0 (c : Dev nD) (t : Fin cfg0.N) : (dats m 0 c).after 0 t = iblk m c 0 t := by dsimp only [dats]
/-- What the body finds in window 0. -/
theorem before0_0 (c : Dev nD) (t : Fin cfg0.N) (d) : (dats m 0 c).before 0 t d = iblk m c 0 t := before0_0_of m _ (A_eq m c 0) (after0_0 m c) t d
/-- What the body leaves in window 1. -/
theorem after0_1 (c : Dev nD) (t : Fin cfg0.N) : (dats m 0 c).after 1 t = iblk m c 1 t := by dsimp only [dats]
/-- What the body finds in window 1. -/
theorem before0_1 (c : Dev nD) (t : Fin cfg0.N) (d) : (dats m 0 c).before 1 t d = iblk m c 1 t := before0_1_of m _ (A_eq m c 1) (after0_1 m c) t d
/-- What the body leaves in window 2. -/
theorem after0_2 (c : Dev nD) (t : Fin cfg0.N) : (dats m 0 c).after 2 t = iblk m c 2 t := by dsimp only [dats]
/-- What the body finds in window 2. -/
theorem before0_2 (c : Dev nD) (t : Fin cfg0.N) (d) : (dats m 0 c).before 2 t d = iblk m c 2 t := before0_2_of m _ (A_eq m c 2) (after0_2 m c) t d
/-- What the body leaves in window 3. -/
theorem after0_3 (c : Dev nD) (t : Fin cfg0.N) : (dats m 0 c).after 3 t = iblk m c 3 t := by dsimp only [dats]
/-- What the body finds in window 3. -/
theorem before0_3 (c : Dev nD) (t : Fin cfg0.N) (d) : (dats m 0 c).before 3 t d = iblk m c 3 t := before0_3_of m _ (A_eq m c 3) (after0_3 m c) t d
/-- What the body leaves in window 4. -/
theorem after0_4 (c : Dev nD) (t : Fin cfg0.N) : (dats m 0 c).after 4 t = iblk m c 4 t := by dsimp only [dats]
/-- What the body finds in window 4. -/
theorem before0_4 (c : Dev nD) (t : Fin cfg0.N) (d) : (dats m 0 c).before 4 t d = iblk m c 4 t := before0_4_of m _ (A_eq m c 4) (after0_4 m c) t d
/-- What the body leaves in window 5. -/
theorem after0_5 (c : Dev nD) (t : Fin cfg0.N) : (dats m 0 c).after 5 t = yAt m c t := by dsimp only [dats]
/-- What the body leaves in window 6. -/
theorem after0_6 (c : Dev nD) (t : Fin cfg0.N) : (dats m 0 c).after 6 t = xrAt m c := by dsimp only [dats]
/-- The second result's window keeps its block after the first point. -/
theorem fresh_6 : ∀ t : Fin cfg0.N, t.val ≠ 0 → cfg0.fresh 6 t.val = false := by decide +kernel
/-- What the body finds in window 6. -/
theorem before0_6 (c : Dev nD) (t : Fin cfg0.N) (ht : t.val ≠ 0) (d) : (dats m 0 c).before 6 t d = xrAt m c := by
  rw [(dats m 0 c).before_out_traj 6 rfl (fun _ _ => rfl) (fun _ _ _ _ => rfl) t.val t rfl d, fresh_6 t ht, if_neg Bool.false_ne_true]
  rfl

/-- A buffer held whole, from its contents. -/
theorem owns_intro {sp : Space} {s : Shape} {e : EltTy} (c : Dev nD) (M : Memref sig .tc sp s e) (f : M.view.ty.Contents (Elt F)) (X : s.Idx → Elt F e)
    (h : M.view.read (Elt F) f = X) :
    (M.view.loc (c : Thread nD τ) ↦[M.view.set]{fullShare} f : sProp 𝕄) ⊢ iprop(∃ g, ⌜M.view.read (Elt F) g = X⌝ ∗ (M.view.loc (c : Thread nD τ) ↦[M.view.set]{fullShare} g)) := by
  iintro H; iexists _; isplitr
  swap; · iexact H
  ipureintro; exact h

/-- What the body leaves in the second result's buffer, which only the first point stores into. -/
def post6 (c : Dev nD) (t : Fin cfg0.N) : sProp 𝕄 :=
  match cfg0.idle 6 (cfg0.grid.coords t) with
  | true => match (cfg0.win 6).flush t with
    | false => iprop(∃ d, owns (c : Thread nD τ) (ms0_6 t) fullShare ((dats m 0 c).before 6 t d))
    | true => owns (c : Thread nD τ) (ms0_6 t) fullShare ((dats m 0 c).after 6 t)
  | false => owns (c : Thread nD τ) (ms0_6 t) fullShare ((dats m 0 c).after 6 t)

/-- The second result's window, left as it was, holds the rotated activations at a later point. -/
theorem post6_later (c : Dev nD) (t : Fin cfg0.N) (ht : t.val ≠ 0) (f) (h : (ms0_6 t).view.read (Elt F) f = xrAt m c) :
    ((ms0_6 t).view.loc (c : Thread nD τ) ↦[(ms0_6 t).view.set]{fullShare} f : sProp 𝕄) ⊢ post6 m c t := by
  refine BIBase.Entails.trans (owns_intro c (ms0_6 t) f _ h) ?_
  unfold post6
  split
  · split
    · simp only [before0_6 m c t ht]
      unfold owns; iintro H; iexists (xrAt m c); iexact H
    · rw [after0_6]; unfold owns; exact .rfl
  · rw [after0_6]; unfold owns; exact .rfl

/-- The second result's window holds the rotated activations after the first point. -/
theorem post6_first (c : Dev nD) (f) (h : (ms0_6 t0_0).view.read (Elt F) f = xrAt m c) :
    ((ms0_6 t0_0).view.loc (c : Thread nD τ) ↦[(ms0_6 t0_0).view.set]{fullShare} f : sProp 𝕄) ⊢ post6 m c t0_0 := by
  refine BIBase.Entails.trans (owns_intro c (ms0_6 t0_0) f _ h) ?_
  unfold post6
  rw [show cfg0.idle 6 (cfg0.grid.coords t0_0) = false by decide, after0_6]; unfold owns
  exact .rfl

/-- The state before the first point: any scratch contents. -/
theorem Phi_zero (c : Dev nD) (t : Fin (cfg0.N + 1)) (ht : t.val = 0) : (dats m 0 c).Φ t = Pipeline.ΦA spec0 c := by
  dsimp only [dats]; exact if_pos ht
/-- The state before a later point: the permuted activations are in place. -/
theorem Phi_pos (c : Dev nD) (t : Fin (cfg0.N + 1)) (ht : t.val ≠ 0) : (dats m 0 c).Φ t = ΦT m c := by
  dsimp only [dats]; exact if_neg ht

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0  t) fullShare ((dats m 0 c).before 0 t d))
    ∗ (∃ d, owns (c : Thread nD τ) (ms0_1  t) fullShare ((dats m 0 c).before 1 t d))
    ∗ (∃ d, owns (c : Thread nD τ) (ms0_2  t) fullShare ((dats m 0 c).before 2 t d))
    ∗ (∃ d, owns (c : Thread nD τ) (ms0_3  t) fullShare ((dats m 0 c).before 3 t d))
    ∗ (∃ d, owns (c : Thread nD τ) (ms0_4  t) fullShare ((dats m 0 c).before 4 t d))
    ∗ (∃ d, owns (c : Thread nD τ) (ms0_5  t) fullShare ((dats m 0 c).before 5 t d))
    ∗ (∃ d, owns (c : Thread nD τ) (ms0_6  t) fullShare ((dats m 0 c).before 6 t d)))
/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ post6 m c t)

/-- The body's branch is taken at the first point only. -/
theorem cond_first : ∀ i : grid0.Coords, k0_cond1 i = 1#1 ↔ (i 0).val = 0 := by decide
/-- A grid point's coordinate is its number. -/
theorem coords_val : ∀ t : Fin grid0.N, ((grid0.coords t) 0).val = t.val := by decide

/-- The body at a later point does what it should. -/
theorem sound_later (c : Dev nD) (t : Fin cfg0.N) (ht : t.val ≠ 0) :
    bodyPre m c t ⊢ wp frame (wpE (defs₀ (F := F)) Variants.none c none) Set.univ (bodyAt0 t) (fun _ => bodyPost m c t) := by
  have hc : k0_cond1 (grid0.coords t) ≠ 1#1 := fun h => ht ((coords_val t).symm.trans ((cond_first _).mp h))
  unfold bodyPre bodyPost bodyAt0
  rw [Phi_pos m c t.castSucc ht, Phi_pos m c t.succ (Nat.succ_ne_zero _)]
  unfold Dat.owesAt Pipeline.owesWithin
  rw [show (dats m 0 c).owed t.castSucc = 0 from rfl, show (dats m 0 c).owed t.succ = 0 from rfl]
  simp only [before0_0, before0_1, before0_2, before0_3, before0_4, before0_6 m c t ht, after0_0, after0_1, after0_2, after0_3, after0_4, after0_5, after0_6]
  unfold ΦT owns
  iintro ⟨⟨⟨S0, ⟨%f9, %e9, S1⟩, ⟨%d10, %f10, -, S2⟩, ⟨%d11, %f11, -, S3⟩⟩, Hg⟩, ⟨%W, -, HW⟩, ⟨%d0, H0⟩, ⟨%d1, H1⟩, ⟨%d2, %f2, %e2, H2⟩, ⟨%d3, %f3, %e3, H3⟩, ⟨%d4, %f4, %e4, H4⟩, ⟨%d5, %f5, -, H5⟩, ⟨%d6, %f6, %e6, H6⟩⟩
  iapply ((runB (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11).2 f5 _)
  isplitl [H2]; · iexact H2
  isplitl [H3]; · iexact H3
  isplitl [H4]; · iexact H4
  isplitl [H5]; · iexact H5
  isplitl [S1]; · iexact S1
  isplitl [S2]; · iexact S2
  isplitl [S3]; · iexact S3
  iintro ⟨H2, H3, H4, H5, S1, ⟨%g10, S2⟩, ⟨%g11, S3⟩⟩
  isplitl [S0 S1 S2 S3 Hg]
  · isplitl [S0 S1 S2 S3]
    · isplitl [S0]; · iexact S0
      isplitl [S1]; · iapply (owns_intro c scM0_1 f9 _ e9); iexact S1
      isplitl [S2]; · iexists _; iapply (owns_intro c scM0_2 g10 _ rfl); iexact S2
      iexists _; iapply (owns_intro c scM0_3 g11 _ rfl); iexact S3
    iexact Hg
  isplitl [HW]
  · iexists W; isplitr; · ipureintro; exact fun _ _ => Or.inl trivial
    iexact HW
  isplitl [H0]; · iexact H0
  isplitl [H1]; · iexact H1
  isplitl [H2]; · iapply (owns_intro c (ms0_2 t) f2 _ e2); iexact H2
  isplitl [H3]; · iapply (owns_intro c (ms0_3 t) f3 _ e3); iexact H3
  isplitl [H4]; · iapply (owns_intro c (ms0_4 t) f4 _ e4); iexact H4
  isplitl [H5]
  · iapply (owns_intro c (ms0_5 t) _ _ ?_)
    · have h := read_of_pieces (ms0_5 t).view f5 _ _ (ypieces_later c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11)
        (ycover_later c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) f2 f3 f4 f9 f10 f11)
      rw [e2, e3, e4, e9] at h
      exact h
    iexact H5
  iapply (post6_later m c t ht _ e6); iexact H6

/-- The body at the first point does what it should. -/
theorem sound_first (c : Dev nD) (t : Fin cfg0.N) (ht : t.val = 0) :
    bodyPre m c t ⊢ wp frame (wpE (defs₀ (F := F)) Variants.none c none) Set.univ (bodyAt0 t) (fun _ => bodyPost m c t) := by
  have hc : k0_cond1 (grid0.coords t) = 1#1 := (cond_first _).mpr ((coords_val t).trans ht)
  obtain rfl : t = t0_0 := Fin.ext ht
  unfold bodyPre bodyPost bodyAt0
  rw [Phi_zero m c (Fin.castSucc t0_0) rfl, Phi_pos m c (Fin.succ t0_0) (Nat.succ_ne_zero _), PhiA_eq]
  unfold Dat.owesAt Pipeline.owesWithin
  rw [show (dats m 0 c).owed (Fin.castSucc t0_0) = 0 from rfl, show (dats m 0 c).owed (Fin.succ t0_0) = 0 from rfl]
  simp only [before0_0, before0_1, before0_2, before0_3, before0_4, after0_0, after0_1, after0_2, after0_3, after0_4, after0_5, after0_6]
  unfold ΦT owns
  iintro ⟨⟨⟨⟨%d8, %f8, -, S0⟩, ⟨%d9, %f9, -, S1⟩, ⟨%d10, %f10, -, S2⟩, ⟨%d11, %f11, -, S3⟩⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩⟩
  iapply ((runA (F := F) c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11).2 f5 f6 f8 f9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, ⟨%g8, S0⟩, S1, ⟨%g10, S2⟩, ⟨%g11, S3⟩⟩
  isplitl [S0 S1 S2 S3 Hg]
  · isplitl [S0 S1 S2 S3]
    · isplitl [S0]; · iexists _; iapply (owns_intro c scM0_0 g8 _ rfl); iexact S0
      isplitl [S1]
      · iapply (owns_intro c scM0_1 _ _ ?_)
        swap; · iexact S1
        · have h := read_of_pieces scM0_1.view scM0_1.view.junk _ _ (xppieces (ms0_0 t0_0) (ms0_1 t0_0) scM0_0 f0 f1) (xpcover (ms0_0 t0_0) (ms0_1 t0_0) scM0_0 f0 f1)
          rw [e0, e1] at h
          rw [runA_snd]
          exact h
      isplitl [S2]; · iexists _; iapply (owns_intro c scM0_2 g10 _ rfl); iexact S2
      iexists _; iapply (owns_intro c scM0_3 g11 _ rfl); iexact S3
    iexact Hg
  isplitl [HW]
  · iexists W; isplitr; · ipureintro; exact fun _ _ => Or.inl trivial
    iexact HW
  isplitl [H0]; · iapply (owns_intro c (ms0_0 t0_0) f0 _ e0); iexact H0
  isplitl [H1]; · iapply (owns_intro c (ms0_1 t0_0) f1 _ e1); iexact H1
  isplitl [H2]; · iapply (owns_intro c (ms0_2 t0_0) f2 _ e2); iexact H2
  isplitl [H3]; · iapply (owns_intro c (ms0_3 t0_0) f3 _ e3); iexact H3
  isplitl [H4]; · iapply (owns_intro c (ms0_4 t0_0) f4 _ e4); iexact H4
  isplitl [H5]
  · iapply (owns_intro c (ms0_5 t0_0) _ _ ?_)
    · have h := read_of_pieces (ms0_5 t0_0).view f5 _ _ (ypieces_first c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11)
        (ycover_first c (grid0.coords t0_0) hc (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) scM0_0 (Memref.isWhole_whole _) scM0_1 (Memref.isWhole_whole _) scM0_2 (Memref.isWhole_whole _) scM0_3 (Memref.isWhole_whole _) f0 f1 f2 f3 f4 f10 f11)
      rw [e0, e1, e2, e3, e4] at h
      exact h
    iexact H5
  iapply (post6_first m c _ ?_)
  swap; · iexact H6
  · have h := read_of_pieces (ms0_6 t0_0).view (ms0_6 t0_0).view.junk _ _ (xrpieces (ms0_0 t0_0) (ms0_1 t0_0) scM0_0 f0 f1) (xrcover (ms0_0 t0_0) (ms0_1 t0_0) scM0_0 f0 f1)
    rw [e0, e1] at h
    rw [runA_snd]
    exact h

/-- The body does what it should at every point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

/-- The body that the launch calls at point `t`. -/
theorem defs₀_row (t : Fin cfg0.N) :
    defs₀ (F := F) .tc cfg0.body (cfg0.bodyArgs t (cfg0.slots t)) = bodyAt0 t := by
  unfold defs₀; rw [Defs.onTc_tc]

/-- The body's obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- After the last point the scratch may be anything. -/
theorem Phi_out (c : Dev nD) : (dats m 0 c).Φ (Fin.last cfg0.N) ⊢ Pipeline.ΦA spec0 c := by
  rw [Phi_pos m c (Fin.last cfg0.N) (by show cfg0.N ≠ 0; rw [show cfg0.N = 14 from N_0]; decide), PhiA_eq]
  unfold ΦT owns
  iintro ⟨⟨S0, S1, S2, S3⟩, Hg⟩
  isplitl [S0 S1 S2 S3]
  · isplitl [S0]; · iexact S0
    isplitl [S1]; · iexists _; iexact S1
    isplitl [S2]; · iexact S2
    iexact S3
  iexact Hg

set_option backward.isDefEq.respectTransparency.types false in
/-- The run: the arrays end at what the pipeline writes back, and every counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => .rfl) (hout := Phi_out m)

/-- The frame: the program runs, its arguments end unchanged, every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
    (((h.1 c).2 main_arg1 (Pipeline.mem_restRefs_of main_arg1 (by decide) (by decide))).trans (W_main_arg1 m (dats m) c)),
    (((h.1 c).2 main_arg2 (Pipeline.mem_restRefs_of main_arg2 (by decide) (by decide))).trans (W_main_arg2 m (dats m) c)),
    (((h.1 c).2 main_arg3 (Pipeline.mem_restRefs_of main_arg3 (by decide) (by decide))).trans (W_main_arg3 m (dats m) c)),
    (((h.1 c).2 main_arg4 (Pipeline.mem_restRefs_of main_arg4 (by decide) (by decide))).trans (W_main_arg4 m (dats m) c))⟩, h.2⟩) (run_main m ρ)

end Cert.Kernel.Hand

end
-- ==== Proof.Signs.lean ====
/- The signs of the Hadamard matrix: entry `(i, k)` is `-1` to the number of ones of `i and k`. The matrix of 1024 rows is
   the product of the matrix of eight rows, which the kernel's butterfly applies, and of that of 128 rows. -/
module

public import proofs.«01_k».proof.Proof.Ops
public import Idealize.ShloMosaic.Lib.Pointwise

@[expose] public section

noncomputable section

namespace Cert.KernelIdeal.Hand

open Idealize.ShloMosaic
open Cert.KernelIdeal.Gen

/-- The sign of a word: `1` for an even number of ones, `-1` for an odd one. -/
def wordSign (u : BitVec 32) : ℤ := (IntOp.subi 1#32 (IntOp.muli 2#32 (IntOp.andi (IntOp.ctpop u) 1#32))).toInt

/-- The entry of the Hadamard matrix in row `i` and column `k`. -/
def sgn (i k : ℕ) : ℤ := wordSign (IntOp.andi (BitVec.ofNat 32 i) (BitVec.ofNat 32 k))

/-- The parity sign of a ten-bit word is the product of the signs of its upper three and lower seven bits. -/
theorem wordSign_split : ∀ (u : Fin 8) (v : Fin 128),
    wordSign (BitVec.ofNat 32 (128 * u.val + v.val)) = wordSign (BitVec.ofNat 32 u.val) * wordSign (BitVec.ofNat 32 v.val) := by
  decide +kernel

/-- A bitwise and splits into the upper and the lower seven bits. -/
theorem and_split (i q a b : ℕ) (ha : a < 128) (hb : b < 128) : (128 * i + a) &&& (128 * q + b) = 128 * (i &&& q) + (a &&& b) := by
  have h : (a &&& b) < 2 ^ 7 := Nat.and_lt_two_pow a (n := 7) hb
  apply Nat.eq_of_testBit_eq
  intro n
  rw [show (128 : ℕ) = 2 ^ 7 from rfl, Nat.testBit_and, Nat.testBit_two_pow_mul_add _ ha, Nat.testBit_two_pow_mul_add _ hb,
    Nat.testBit_two_pow_mul_add _ h]
  split <;> rw [Nat.testBit_and]

/-- The bitwise and of two words of numbers is the word of the numbers' and. -/
theorem andi_ofNat (a b : ℕ) : IntOp.andi (BitVec.ofNat 32 a) (BitVec.ofNat 32 b) = BitVec.ofNat 32 (a &&& b) :=
  BitVec.ofNat_and.symm

/-- The matrix of 1024 rows from those of eight and of 128. -/
theorem sgn_split (i q a b : ℕ) (hi : i < 8) (ha : a < 128) (hb : b < 128) :
    sgn (128 * i + a) (128 * q + b) = sgn i q * sgn a b := by
  unfold sgn
  rw [andi_ofNat, andi_ofNat, andi_ofNat, and_split i q a b ha hb]
  exact wordSign_split ⟨i &&& q, lt_of_le_of_lt Nat.and_le_left hi⟩ ⟨a &&& b, lt_of_le_of_lt Nat.and_le_left ha⟩

/-- The kernel folds the word's halves together where the definition counts its ones. -/
theorem hadWord_toInt : ∀ v : Fin 128,
    (have p := BitVec.ofNat 32 v.val
     have p := IntOp.xori p (IntOp.shrsi .vector p 4#32)
     have p := IntOp.xori p (IntOp.shrsi .vector p 2#32)
     have p := IntOp.xori p (IntOp.shrsi .vector p 1#32)
     IntOp.subi 1#32 (IntOp.muli 2#32 (IntOp.andi p 1#32))).toInt = wordSign (BitVec.ofNat 32 v.val) := by
  decide +kernel

/-- The kernel's matrix holds these signs. -/
theorem had_apply (a b : Fin 128) : (had (F := Ideal)) (ix2 a b) = ((sgn a.val b.val : ℝ) : EReal) := by
  unfold had
  pointwise [k0_pay2]
  unfold sgn
  rw [andi_ofNat]
  exact congrArg (fun z : ℤ => ((z : ℝ) : EReal)) (hadWord_toInt ⟨a.val &&& b.val, lt_of_le_of_lt Nat.and_le_left a.isLt⟩)

end Cert.KernelIdeal.Hand

end
-- ==== Proof.Hadamard.lean ====
/- The kernel's Hadamard transform of 1024 values over the extended reals: where the values are finite, the butterfly on
   eight parts and the products of the three-way split make the product with the matrix of 1024 rows. -/
module

public import proofs.«01_k».proof.Proof.Signs

@[expose] public section

set_option maxRecDepth 16384

noncomputable section

namespace Cert.KernelIdeal.Hand

open Idealize.ShloMosaic
open Cert.KernelIdeal.Gen

/-- A sum of finite values. -/
theorem coe_sum {n : ℕ} (f : Fin n → ℝ) : (∑ i, (f i : EReal)) = ((∑ i, f i : ℝ) : EReal) :=
  (map_sum (⟨⟨Real.toEReal, EReal.coe_zero⟩, EReal.coe_add⟩ : ℝ →+ EReal) f Finset.univ).symm

/-- The scale of the transform is `1 / 32`. -/
theorem scale_eq : Ideal.ofBits .f32 0x3D000000#32 = ((1 / 32 : ℝ) : EReal) := by
  simp [Ideal.ofBits, Ideal.ieee, -EReal.coe_mul]; norm_num

/-- The matrix of eight rows. -/
def sgn8 : Fin 8 → Fin 8 → ℤ :=
  ![![1, 1, 1, 1, 1, 1, 1, 1], ![1, -1, 1, -1, 1, -1, 1, -1], ![1, 1, -1, -1, 1, 1, -1, -1], ![1, -1, -1, 1, 1, -1, -1, 1],
    ![1, 1, 1, 1, -1, -1, -1, -1], ![1, -1, 1, -1, -1, 1, -1, 1], ![1, 1, -1, -1, -1, -1, 1, 1], ![1, -1, -1, 1, -1, 1, 1, -1]]
/-- The table `sgn8` is the Hadamard matrix of eight rows. -/
theorem sgn8_eq : ∀ i q : Fin 8, sgn i.val q.val = sgn8 i q := by decide +kernel

/-- The butterfly on finite values is the product with the matrix of eight rows. -/
theorem bfly_apply (p : Fin 8 → FVec Ideal S128x128 .f32) (j : S128x128.Idx) (r : Fin 8 → ℝ)
    (h : ∀ i, p i j = ((r i : ℝ) : EReal)) (q : Fin 8) :
    bfly p q j = ((∑ i : Fin 8, r i * (sgn i.val q.val : ℝ) : ℝ) : EReal) := by
  simp only [sgn8_eq, Fin.sum_univ_eight]
  fin_cases q <;>
  · simp only [bfly, bf4, bf2, bf1, addf_apply, subf_apply, Ideal.addf_def, Ideal.subf_def, h, ← EReal.coe_add, ← EReal.coe_sub]
    congr 1
    simp [sgn8]
    ring

/-- A row of finite values times the kernel's matrix. -/
theorem dotH_apply (a : FVec Ideal S128x128 .bf16) (s b : Fin 128) (r : Fin 128 → ℝ) (h : ∀ k, a (ix2 s k) = ((r k : ℝ) : EReal)) :
    dotH a (ix2 s b) = ((∑ k : Fin 128, r k * (sgn k.val b.val : ℝ) : ℝ) : EReal) := by
  unfold dotH
  pointwise
  simp only [had_apply, h, ← EReal.coe_mul]
  exact coe_sum _

/-- Nothing is left of a finite value after a rounding that changes nothing. -/
theorem rest_apply (z : FVec Ideal S128x128 .f32) (j : S128x128.Idx) (r : ℝ) (h : z j = (r : EReal)) : rest z j = ((0 : ℝ) : EReal) := by
  unfold rest
  pointwise
  rw [h, ← EReal.coe_sub, sub_self]

/-- A row of finite values through the three-way split: the product with the matrix, scaled. -/
theorem hadMul_apply (z : FVec Ideal S128x128 .f32) (s b : Fin 128) (r : Fin 128 → ℝ) (h : ∀ k, z (ix2 s k) = ((r k : ℝ) : EReal)) :
    hadMul z (ix2 s b) = (((∑ k : Fin 128, r k * (sgn k.val b.val : ℝ)) * (1 / 32) : ℝ) : EReal) := by
  have h1 : ∀ k, rest z (ix2 s k) = (((0 : ℝ)) : EReal) := fun k => rest_apply z _ _ (h k)
  have h2 : ∀ k, rest (rest z) (ix2 s k) = (((0 : ℝ)) : EReal) := fun k => rest_apply _ _ _ (h1 k)
  have e0 := dotH_apply (truncf .bf16 z bitsLt_bf16_f32) s b r h
  have e1 := dotH_apply (truncf .bf16 (rest z) bitsLt_bf16_f32) s b (fun _ => 0) h1
  have e2 := dotH_apply (truncf .bf16 (rest (rest z)) bitsLt_bf16_f32) s b (fun _ => 0) h2
  simp only [hadMul, mulf_apply, addf_apply, e0, e1, e2]
  show (_ + _ + _) * (Ideal.ofBits .f32 0x3D000000#32 : EReal) = _
  rw [scale_eq, ← EReal.coe_add, ← EReal.coe_add, ← EReal.coe_mul]
  simp

/-- The whole transform of 1024 finite values. -/
theorem hadMul_bfly (p : Fin 8 → FVec Ideal S128x128 .f32) (s : Fin 128) (r : ℕ → ℝ)
    (h : ∀ (i : Fin 8) (a : Fin 128), p i (ix2 s a) = ((r (128 * i.val + a.val) : ℝ) : EReal)) (q : Fin 8) (b : Fin 128) :
    hadMul (bfly p q) (ix2 s b)
      = (((∑ k : Fin 1024, r k.val * (sgn k.val (128 * q.val + b.val) : ℝ)) * (1 / 32) : ℝ) : EReal) := by
  rw [hadMul_apply _ s b _ fun k => bfly_apply p (ix2 s k) (fun i => r (128 * i.val + k.val)) (fun i => h i k) q]
  congr 2
  simp only [Finset.sum_mul]
  rw [Finset.sum_comm, ← (finProdFinEquiv (m := 8) (n := 128)).sum_comp, Fintype.sum_prod_type]
  refine Finset.sum_congr rfl fun i _ => Finset.sum_congr rfl fun a _ => ?_
  rw [show ((finProdFinEquiv (m := 8) (n := 128) (i, a)).val) = 128 * i.val + a.val by simp [finProdFinEquiv]; ring,
    sgn_split _ _ _ _ i.isLt a.isLt b.isLt]
  push_cast
  ring

end Cert.KernelIdeal.Hand

end
-- ==== Proof.Decode.lean ====
/- One decoded weight as a function of its 16-bit state: the kernel's bit arithmetic and the reference's make the same two
   `f32` words, and both words denote finite numbers. -/
module

public import proofs.«01_k».proof.Proof.Ops
public import Idealize.ShloMosaic.Lib.Pointwise

@[expose] public section

set_option maxRecDepth 16384

noncomputable section

namespace Cert.KernelIdeal.Hand

open Idealize.ShloMosaic
open Cert.KernelIdeal.Gen

/-- The hash of a state. -/
def hash (s : BitVec 32) : BitVec 32 := IntOp.addi (IntOp.muli s 89226354#32) 64248484#32
/-- The `f32` word of the hash's upper half, and of its lower half. -/
def hiWord (h : BitVec 32) : BitVec 32 := IntOp.xori (IntOp.andi (IntOp.shrsi .vector h 3#32) 2181029888#32) 1064042496#32
@[inherit_doc hiWord] def loWord (h : BitVec 32) : BitVec 32 := hiWord (IntOp.shli .vector h 16#32)
/-- The decoded weight. -/
def dec (s : BitVec 32) : EReal := Ideal.ofBits .f32 (loWord (hash s)) + Ideal.ofBits .f32 (hiWord (hash s))

/-- The half-precision word `b`, widened to `f32`. -/
def widen (b : BitVec 32) : BitVec 32 :=
  IntOp.ori (IntOp.shli .host (IntOp.andi b 32768#32) 16#32) (IntOp.addi (IntOp.shli .host (IntOp.andi b 32767#32) 13#32) 939524096#32)
/-- The hash with its two halves made half-precision words. -/
def masked (h : BitVec 32) : BitVec 32 := IntOp.xori (IntOp.andi h 2415890431#32) 996162400#32

/-- Widening the masked hash's upper half gives the kernel's upper word. -/
theorem widen_hi (h : BitVec 32) : widen (IntOp.shrui .host (masked h) 16#32) = hiWord h := by
  show ((((((h &&& 2415890431#32) ^^^ 996162400#32) >>> 16) &&& 32768#32) <<< 16) ||| ((((((h &&& 2415890431#32) ^^^ 996162400#32) >>> 16) &&& 32767#32) <<< 13) + 939524096#32) : BitVec 32)
    = ((h.sshiftRight 3) &&& 2181029888#32) ^^^ 1064042496#32
  rw [BitVec.add_eq_or_of_and_eq_zero]
  · apply BitVec.eq_of_getLsbD_eq
    intro i hi
    interval_cases i <;> simp [BitVec.getElem_sshiftRight, BitVec.msb_eq_getLsbD_last, BitVec.getMsbD]
  · apply BitVec.eq_of_getLsbD_eq
    intro i hi
    interval_cases i <;> simp

/-- Widening the masked hash's lower half gives the kernel's lower word. -/
theorem widen_lo (h : BitVec 32) : widen (IntOp.andi (masked h) 65535#32) = loWord h := by
  show ((((((h &&& 2415890431#32) ^^^ 996162400#32) &&& 65535#32) &&& 32768#32) <<< 16) ||| ((((((h &&& 2415890431#32) ^^^ 996162400#32) &&& 65535#32) &&& 32767#32) <<< 13) + 939524096#32) : BitVec 32)
    = (((h <<< 16).sshiftRight 3) &&& 2181029888#32) ^^^ 1064042496#32
  rw [BitVec.add_eq_or_of_and_eq_zero]
  · apply BitVec.eq_of_getLsbD_eq
    intro i hi
    interval_cases i <;> simp [BitVec.getElem_sshiftRight, BitVec.msb_eq_getLsbD_last, BitVec.getMsbD]
  · apply BitVec.eq_of_getLsbD_eq
    intro i hi
    interval_cases i <;> simp

/-- A single-precision word whose top exponent bit is clear is a real number. -/
theorem ofBits_finite (w : BitVec 32) (h : w.getLsbD 30 = false) : ∃ r : ℝ, Ideal.ofBits .f32 w = (r : EReal) := by
  have hex : (w.extractLsb' 23 8).toNat ≠ 2 ^ 8 - 1 := by
    intro e
    have e' : BitVec.extractLsb' 23 8 w = 255#8 := BitVec.eq_of_toNat_eq e
    have := congrArg (fun b => b.getLsbD 7) e'
    simp [BitVec.getLsbD_extractLsb'] at this
    exact absurd (h.symm.trans (BitVec.getLsbD_eq_getElem (by decide) |>.trans this)) (by decide)
  show ∃ r : ℝ, Ideal.ieee 8 23 w = (r : EReal)
  unfold Ideal.ieee
  simp only [hex, if_false]
  split
  · exact ⟨_, rfl⟩
  · exact ⟨_, rfl⟩

/-- The kernel's words have the top exponent bit clear. -/
theorem hiWord_bit (h : BitVec 32) : (hiWord h).getLsbD 30 = false := by
  show (((h.sshiftRight 3) &&& 2181029888#32) ^^^ 1064042496#32 : BitVec 32).getLsbD 30 = false
  simp

/-- A decoded weight is finite. -/
theorem dec_finite (s : BitVec 32) : ∃ r : ℝ, dec s = (r : EReal) := by
  obtain ⟨a, ha⟩ := ofBits_finite _ (hiWord_bit (IntOp.shli .vector (hash s) 16#32))
  obtain ⟨b, hb⟩ := ofBits_finite _ (hiWord_bit (hash s))
  exact ⟨a + b, by unfold dec loWord; rw [ha, hb, EReal.coe_add]⟩

/-- The decoded weight as a real number. -/
def decR (s : BitVec 32) : ℝ := (dec s).toReal
/-- The decoded weight is the real number `decR`. -/
theorem dec_eq (s : BitVec 32) : dec s = ((decR s : ℝ) : EReal) := by
  obtain ⟨r, hr⟩ := dec_finite s
  unfold decR; rw [hr, EReal.toReal_coe]

/-- The kernel's decoding at an index, for any constants. -/
theorem decode_gen (s : IVec S16x256 32) (c1 c2 c3 c4 c5 c6 : BitVec 32) (j : S16x256.Idx) :
    shapeCast S16x256 (truncf (F := Ideal) .bf16 (addf
      (bitcastToFloat .f32 (xori (andi (shrsi (shli (addi (muli s (broadcast S16x256 c1)) (broadcast S16x256 c2)) (broadcast S16x256 c6)) (broadcast S16x256 c3)) (broadcast S16x256 c4)) (broadcast S16x256 c5)))
      (bitcastToFloat .f32 (xori (andi (shrsi (addi (muli s (broadcast S16x256 c1)) (broadcast S16x256 c2)) (broadcast S16x256 c3)) (broadcast S16x256 c4)) (broadcast S16x256 c5)))) bitsLt_bf16_f32) shapeCasts_S16x256_S16x256 j
    = Ideal.ofBits .f32 (IntOp.xori (IntOp.andi (IntOp.shrsi .vector (IntOp.shli .vector (IntOp.addi (IntOp.muli (s j) c1) c2) c6) c3) c4) c5)
      + Ideal.ofBits .f32 (IntOp.xori (IntOp.andi (IntOp.shrsi .vector (IntOp.addi (IntOp.muli (s j) c1) c2) c3) c4) c5) := by
  pointwise

/-- The kernel's decoding at an index. -/
theorem decode_apply (s : IVec S16x256 32) (j : S16x256.Idx) : decode (F := Ideal) s j = dec (s j) :=
  decode_gen s 89226354#32 64248484#32 3#32 2181029888#32 1064042496#32 16#32 j

/-- The decoding of the hash as the reference spells it. -/
theorem dec_widen (s : BitVec 32) :
    Ideal.ofBits .f32 (widen (IntOp.andi (masked (hash s)) 65535#32)) + Ideal.ofBits .f32 (widen (IntOp.shrui .host (masked (hash s)) 16#32)) = dec s := by
  rw [widen_hi, widen_lo]; rfl

end Cert.KernelIdeal.Hand

end
-- ==== Proof.Words.lean ====
/- The words the weights are decoded from: each 16-bit code stands above the code that follows it, and a field's state is
   sixteen bits of that pair. -/
module

public import proofs.«01_k».proof.Proof.Decode
public import Idealize.ShloMosaic.Lib.BitcastPair

@[expose] public section

set_option maxRecDepth 16384

noncomputable section

namespace Cert.KernelIdeal.Hand

open Idealize.ShloMosaic
open Cert.KernelIdeal.Gen

/-- The state of field `f` in the pair of codes `u`, `v`: sixteen bits from bit `16 - 2 f` up. -/
def st (u v : BitVec 16) (f : ℕ) : BitVec 32 := IntOp.andi (IntOp.shrui .host (u ++ v : BitVec 32) (BitVec.ofNat 32 (16 - 2 * f))) 65535#32

/-- A loaded word holds an odd-numbered code above the even-numbered one before it. -/
theorem pay285_apply (a : Vec Ideal S1x32x256 .i16) (j : Fin 16) (bc : Fin 256) :
    k0_pay285 a (ix2 j bc)
      = (a (ix3 0 ⟨2 * j.val + 1, by omega⟩ bc) ++ a (ix3 0 ⟨2 * j.val, by omega⟩ bc) : BitVec 32) := by
  unfold k0_pay285
  rw [bitcast_16_32]
  congr 1
  · refine Eq.trans (congrArg (shapeCast S32x256 a shapeCasts_S1x32x256_S32x256) (?_ : _ = ix2 ⟨2 * j.val + 1, by omega⟩ bc)) (by pointwise)
    funext a; fin_cases a <;> rfl
  · refine Eq.trans (congrArg (shapeCast S32x256 a shapeCasts_S1x32x256_S32x256) (?_ : _ = ix2 ⟨2 * j.val, by omega⟩ bc)) (by pointwise)
    funext a; fin_cases a <;> rfl

/-- Swapping a word's halves by shifts. -/
theorem swap_halves (u v : BitVec 16) : IntOp.ori (IntOp.shli .vector (v ++ u : BitVec 32) 16#32) (IntOp.shrui .vector (v ++ u : BitVec 32) 16#32) = (u ++ v : BitVec 32) := by
  show ((v ++ u : BitVec 32) <<< 16) ||| ((v ++ u : BitVec 32) >>> 16) = _
  apply BitVec.eq_of_getLsbD_eq
  intro i hi
  simp [BitVec.getLsbD_append]
  grind

/-- Joining the upper half of one word with the lower half of another. -/
theorem join_halves (u v w x : BitVec 16) : IntOp.ori (IntOp.andi (v ++ u : BitVec 32) 4294901760#32) (IntOp.andi (x ++ w : BitVec 32) 65535#32) = (v ++ w : BitVec 32) := by
  show ((v ++ u : BitVec 32) &&& 4294901760#32) ||| ((x ++ w : BitVec 32) &&& 65535#32) = _
  apply BitVec.eq_of_getLsbD_eq
  intro i hi
  simp only [BitVec.getLsbD_or, BitVec.getLsbD_and, BitVec.getLsbD_append, BitVec.getLsbD_shiftLeft, BitVec.getLsbD_setWidth]
  interval_cases i <;> simp

/-- The pair as the reference spells it. -/
theorem pair_eq (u v : BitVec 16) : IntOp.ori (IntOp.shli .host (u.zeroExtend 32) 16#32) (v.zeroExtend 32) = (u ++ v : BitVec 32) := by
  show ((u.zeroExtend 32) <<< 16) ||| (v.zeroExtend 32) = _
  apply BitVec.eq_of_getLsbD_eq
  intro i hi
  simp only [BitVec.getLsbD_or, BitVec.getLsbD_and, BitVec.getLsbD_append, BitVec.getLsbD_shiftLeft, BitVec.getLsbD_setWidth]
  interval_cases i <;> simp

/-- The words of a half at an index. -/
theorem words_apply (a : Vec Ideal S1x32x256 .i16) (h : Fin 2) (j : Fin 16) (bc : Fin 256) :
    words a h.val (ix2 j bc)
      = (a (ix3 0 ⟨2 * j.val + h.val, by omega⟩ bc) ++ a (ix3 0 ⟨(2 * j.val + h.val + 1) % 32, by omega⟩ bc) : BitVec 32) := by
  fin_cases h
  · show k0_pay286 a (ix2 j bc) = _
    pointwise [k0_pay286]
    rw [pay285_apply, swap_halves]
    congr 3
    simp; omega
  · show k0_pay287 a (ix2 j bc) = _
    pointwise [k0_pay287]
    rw [pay285_apply, pay285_apply, join_halves]
    congr 3
    simp; omega

/-- A word shifted right by 16 has only its lower 16 bits. -/
theorem shr16 (w : BitVec 32) : w >>> 16 = (w >>> 16) &&& 65535#32 := by
  apply BitVec.eq_of_getLsbD_eq
  intro i hi
  interval_cases i <;> simp

/-- A field's state at an index: 16 bits of the pair. -/
theorem state_apply (p : IVec S16x256 32) (f : Fin 8) (j : S16x256.Idx) :
    state p f.val j = IntOp.andi (IntOp.shrui .host (p j) (BitVec.ofNat 32 (16 - 2 * f.val))) 65535#32 := by
  fin_cases f
  · exact shr16 (p j)
  all_goals rfl

/-- The decoded tile of half `h` and field `f` at an index. -/
theorem wtile_apply (a : Vec Ideal S1x32x256 .i16) (n : ℕ) (h : Fin 2) (f : Fin 8) (hn : n = 8 * h.val + f.val) (j : Fin 16) (bc : Fin 256) :
    wtile a n (ix2 j bc)
      = dec (st (a (ix3 0 ⟨2 * j.val + h.val, by omega⟩ bc)) (a (ix3 0 ⟨(2 * j.val + h.val + 1) % 32, by omega⟩ bc)) f.val) := by
  unfold wtile
  rw [show n / 8 = h.val by omega, show n % 8 = f.val by omega, decode_apply, state_apply, words_apply]
  rfl

end Cert.KernelIdeal.Hand

end
-- ==== Proof.KVal.lean ====
/- The kernel's values over the extended reals, at finite inputs: the rotated activations, the decoded weights, their
   products, and the block of the first result, each at an index, as sums of real numbers. -/
module

public import proofs.«01_k».proof.Proof.Hadamard
public import proofs.«01_k».proof.Proof.Words

@[expose] public section

set_option maxRecDepth 16384

noncomputable section

namespace Cert.KernelIdeal.Hand

open Idealize.ShloMosaic
open Cert.KernelIdeal.Gen

/-- An array glued from blocks, at an index: the block it falls in, at the place inside that block. -/
theorem glue_apply {R C : ℕ} (r c : ℕ) (hr : 0 < r) (hc : 0 < c) {α : Type} (f : ℕ → ℕ → (⟨2, ![r, c]⟩ : Shape).Idx → α) (a : Fin R) (b : Fin C) :
    glue (R := R) (C := C) r c hr hc f (ix2 a b) = f (a.val / r) (b.val / c) (ix2 ⟨a.val % r, Nat.mod_lt _ hr⟩ ⟨b.val % c, Nat.mod_lt _ hc⟩) := rfl

/-- The transform of `v`, 1024 values at a time, at position `c`. -/
def hadR (v : ℕ → ℝ) (c : ℕ) : ℝ := (∑ k : Fin 1024, v (1024 * (c / 1024) + k.val) * (sgn k.val (c % 1024) : ℝ)) * (1 / 32)

/-- An activation times its sign, at an index of one 128-column part. -/
theorem xpart_apply (x : S128x4096.Idx → Elt Ideal .bf16) (su : S1x4096.Idx → Elt Ideal .f32) (n : Fin 32) (s a : Fin 128) :
    xpart (F := Ideal) x su n (ix2 s a) = x (ix2 s ⟨128 * n.val + a.val, by omega⟩) * su (ix2 0 ⟨128 * n.val + a.val, by omega⟩) := by
  unfold xpart
  pointwise

/-- A 128-column part of the rotated activations is the transform `hadR` of the signed activations. -/
theorem xrot_apply (x : S128x4096.Idx → Elt Ideal .bf16) (su : S1x4096.Idx → Elt Ideal .f32) (s : Fin 128) (v : ℕ → ℝ)
    (h : ∀ k : Fin 4096, x (ix2 s k) * su (ix2 0 k) = ((v k.val : ℝ) : EReal)) (n : ℕ) (hn : n < 32) (b : Fin 128) :
    xrot (F := Ideal) x su n (ix2 s b) = ((hadR v (128 * n + b.val) : ℝ) : EReal) := by
  unfold xrot
  pointwise
  rw [hadMul_bfly _ s (fun k => v (1024 * (n / 8) + k)) (fun i a => ?_) _ b]
  · unfold hadR
    rw [show (128 * n + b.val) / 1024 = n / 8 by omega, show (128 * n + b.val) % 1024 = 128 * (Fin.ofNat 8 n).val + b.val by simp [Fin.ofNat]; omega]
  · rw [xpart_apply, h]
    congr 2
    simp [Fin.ofNat]; omega

/-- The rotated activations at an index. -/
theorem XR_apply (x : S128x4096.Idx → Elt Ideal .bf16) (su : S1x4096.Idx → Elt Ideal .f32) (s : Fin 128) (v : ℕ → ℝ)
    (h : ∀ k : Fin 4096, x (ix2 s k) * su (ix2 0 k) = ((v k.val : ℝ) : EReal)) (c : Fin 4096) :
    XR (F := Ideal) x su (ix2 s c) = ((hadR v c.val : ℝ) : EReal) := by
  unfold XR
  rw [glue_apply, show (⟨s.val % 128, Nat.mod_lt _ (by decide)⟩ : Fin 128) = s from Fin.ext (Nat.mod_eq_of_lt s.isLt), xrot_apply x su s v h _ (by omega)]
  congr 2
  dsimp only
  omega

/-- The transposed rotated activations at an index. -/
theorem XT_apply (x : S128x4096.Idx → Elt Ideal .bf16) (su : S1x4096.Idx → Elt Ideal .f32) (s : Fin 128) (v : ℕ → ℝ)
    (h : ∀ k : Fin 4096, x (ix2 s k) * su (ix2 0 k) = ((v k.val : ℝ) : EReal)) (c : Fin 4096) :
    XT (F := Ideal) x su (ix2 c s) = ((hadR v c.val : ℝ) : EReal) := by
  unfold XT
  rw [glue_apply, show (⟨s.val % 128, Nat.mod_lt _ (by decide)⟩ : Fin 128) = s from Fin.ext (Nat.mod_eq_of_lt s.isLt)]
  pointwise
  rw [xrot_apply x su s v h _ (by omega)]
  congr 2
  dsimp only
  omega

/-- The permuted activations at an index: place `c` holds row `c / 256 + 16 (c % 256)`. -/
theorem XP_apply (xt : S4096x128.Idx → Elt Ideal .f32) (c : Fin 4096) (s : Fin 128) :
    XP (F := Ideal) xt (ix2 c s) = xt (ix2 ⟨c.val / 256 + 16 * (c.val % 256), by omega⟩ s) := by
  unfold XP
  rw [glue_apply]
  pointwise [k0_pay267]
  refine congrArg xt ?_
  congr 1 <;> apply Fin.ext <;> simp [Fin.ofNat] <;> omega

/-- The decoded weight of output row `o` at place `c` of the kernel's order, from the codes `code`. -/
def wK (code : ℕ → ℕ → ℕ → BitVec 16) (o c : ℕ) : ℝ :=
  decR (st (code (o / 16) (2 * (o % 16) + c / 2048) (c % 256)) (code (o / 16) ((2 * (o % 16) + c / 2048 + 1) % 32) (c % 256)) (c / 256 % 8))

/-- The first code block that step `k`, block `b` of the loop reads is `8 k + b`. -/
theorem off1_0 : ∀ (k : Fin k0_t1_loop.trips) (b : Fin 8), k0_off1 k (BitVec.ofNat 32 b.val) 0 = 8 * k.val + b.val := by decide
/-- It reads the words from the first. -/
theorem off1_1 : ∀ (k : Fin k0_t1_loop.trips) (b : Fin 8), k0_off1 k (BitVec.ofNat 32 b.val) 1 = 0 := by decide
/-- It reads the column blocks from the first. -/
theorem off1_2 : ∀ (k : Fin k0_t1_loop.trips) (b : Fin 8), k0_off1 k (BitVec.ofNat 32 b.val) 2 = 0 := by decide

/-- The codes of one row block at an index. -/
theorem slab_apply (x3 : S64x32x256.Idx → Elt Ideal .i16) (k : Fin k0_t1_loop.trips) (b : Fin 8) (w : Fin 32) (bc : Fin 256) :
    slab (F := Ideal) x3 k b (ix3 0 w bc) = x3 (ix3 ⟨8 * k.val + b.val, by have : k.val < 8 := k.isLt; omega⟩ w bc) := by
  unfold slab
  refine congrArg x3 ?_
  funext a
  apply Fin.ext
  fin_cases a
  · show k0_off1 k (BitVec.ofNat 32 b.val) 0 + 0 * 1 = _
    rw [off1_0]; rfl
  · show k0_off1 k (BitVec.ofNat 32 b.val) 1 + 1 * w.val = _
    rw [off1_1]; simp
  · show k0_off1 k (BitVec.ofNat 32 b.val) 2 + 1 * bc.val = _
    rw [off1_2]; simp

/-- The decoded weights of a chunk of 128 rows at an index. -/
theorem W_apply (x3 : S64x32x256.Idx → Elt Ideal .i16) (code : ℕ → ℕ → ℕ → BitVec 16)
    (h : ∀ (b : Fin 64) (w : Fin 32) (bc : Fin 256), x3 (ix3 b w bc) = code b.val w.val bc.val) (k : Fin k0_t1_loop.trips) (r : Fin 128) (c : Fin 4096) :
    W (F := Ideal) x3 k (ix2 r c) = ((wK code (128 * k.val + r.val) c.val : ℝ) : EReal) := by
  have hk : k.val < 8 := k.isLt
  unfold W
  rw [glue_apply, wtile_apply _ _ ⟨c.val / 2048, by omega⟩ ⟨c.val / 256 % 8, by omega⟩ (by dsimp only; omega), slab_apply, slab_apply, h, h, dec_eq]
  unfold wK
  congr 3 <;> congr 1 <;> simp [Fin.ofNat] <;> omega

/-- The product of a row of weights with a token's rotated activations. -/
def accR (code : ℕ → ℕ → ℕ → BitVec 16) (xr : ℕ → ℝ) (o : ℕ) : ℝ :=
  ∑ c : Fin 4096, wK code o c.val * xr (c.val / 256 + 16 * (c.val % 256))

/-- A chunk's product at an index is the sum over the contracted axis. -/
theorem pay613_apply (w : S128x4096.Idx → Elt Ideal .f32) (xp : S4096x128.Idx → Elt Ideal .bf16) (a b : Fin 128) :
    k0_pay613 (F := Ideal) w xp (ix2 a b) = ∑ c : Fin 4096, w (ix2 a c) * xp (ix2 c b) := by
  pointwise [k0_pay613]

/-- The products of all 1024 rows at an index. -/
theorem ACC_apply (x3 : S64x32x256.Idx → Elt Ideal .i16) (code : ℕ → ℕ → ℕ → BitVec 16)
    (h : ∀ (b : Fin 64) (w : Fin 32) (bc : Fin 256), x3 (ix3 b w bc) = code b.val w.val bc.val)
    (xt : S4096x128.Idx → Elt Ideal .f32) (s : Fin 128) (xr : ℕ → ℝ) (hx : ∀ c : Fin 4096, xt (ix2 c s) = ((xr c.val : ℝ) : EReal)) (o : Fin 1024) :
    ACC (F := Ideal) x3 (XP xt) (ix2 o s) = ((accR code xr o.val : ℝ) : EReal) := by
  unfold ACC
  rw [glue_apply, show (⟨s.val % 128, Nat.mod_lt _ (by decide)⟩ : Fin 128) = s from Fin.ext (Nat.mod_eq_of_lt s.isLt)]
  unfold chunk
  rw [pay613_apply]
  unfold accR
  rw [← coe_sum]
  refine Finset.sum_congr rfl fun c _ => ?_
  rw [W_apply x3 code h, XP_apply, hx, ← EReal.coe_mul]
  dsimp only
  rw [show 128 * (o.val / 128 % 8) + o.val % 128 = o.val by omega]

/-- The scaled products of a token, by row. -/
theorem apart_apply (acc : S1024x128.Idx → Elt Ideal .f32) (rs : S1x1024.Idx → Elt Ideal .f32) (q : Fin 8) (s a : Fin 128) :
    apart (F := Ideal) acc rs q (ix2 s a) = acc (ix2 ⟨128 * q.val + a.val, by omega⟩ s) * rs (ix2 0 ⟨128 * q.val + a.val, by omega⟩) := by
  unfold apart
  pointwise

/-- The first result's block at an index: the transform of the scaled products, times the output sign. -/
theorem Y_apply (acc : S1024x128.Idx → Elt Ideal .f32) (rs sv : S1x1024.Idx → Elt Ideal .f32) (s : Fin 128) (v : ℕ → ℝ)
    (h : ∀ k : Fin 1024, acc (ix2 k s) * rs (ix2 0 k) = ((v k.val : ℝ) : EReal)) (o : Fin 1024) :
    Y (F := Ideal) acc rs sv (ix2 s o) = ((hadR v o.val : ℝ) : EReal) * sv (ix2 0 o) := by
  unfold Y
  rw [glue_apply, show (⟨s.val % 128, Nat.mod_lt _ (by decide)⟩ : Fin 128) = s from Fin.ext (Nat.mod_eq_of_lt s.isLt)]
  pointwise
  rw [hadMul_bfly _ s v (fun i a => by rw [apart_apply, h]) _ _]
  unfold hadR
  rw [show o.val / 1024 = 0 by omega, show o.val % 1024 = o.val by omega]
  simp only [show (Fin.ofNat 8 (o.val / 128)).val = o.val / 128 by simp [Fin.ofNat]; omega, show 128 * (o.val / 128) + o.val % 128 = o.val by omega,
    Nat.mul_zero, Nat.zero_add]

end Cert.KernelIdeal.Hand

end
-- ==== Proof.Spec.lean ====
/- What both programs compute, at finite inputs, as functions of the argument arrays: the transformed activations and
   the layer's output, in sums of real numbers. -/
module

public import proofs.«01_k».proof.Proof.KVal

@[expose] public section

set_option maxRecDepth 16384

noncomputable section

namespace Cert.KernelIdeal.Hand

open Idealize.ShloMosaic
open Cert.KernelIdeal.Gen

/-- Token `s`'s activations scaled by `su`. -/
def vX (x : S1x128x4096.Idx → Elt Ideal .bf16) (su : S4096.Idx → Elt Ideal .f32) (s : Fin 128) (k : ℕ) : ℝ :=
  if h : k < 4096 then EReal.toReal (x (ix3 0 s ⟨k, h⟩) * su (ix1 ⟨k, h⟩)) else 0

/-- The code of block row `b`, pair `w`, block column `bc`. -/
def codeN (codes : S896x256x32.Idx → Elt Ideal .i16) (b w bc : ℕ) : BitVec 16 :=
  if h : b < 896 ∧ w < 32 ∧ bc < 256 then codes (ix3 ⟨b, h.1⟩ ⟨bc, h.2.2⟩ ⟨w, h.2.1⟩) else 0

/-- Token `s`'s products with the weights, scaled by the rows' scales. -/
def vY (x : S1x128x4096.Idx → Elt Ideal .bf16) (codes : S896x256x32.Idx → Elt Ideal .i16) (rs : S14336.Idx → Elt Ideal .f32)
    (su : S4096.Idx → Elt Ideal .f32) (s : Fin 128) (o : ℕ) : ℝ :=
  if h : o < 14336 then accR (codeN codes) (hadR (vX x su s)) o * EReal.toReal (rs (ix1 ⟨o, h⟩)) else 0

/-- The second result: the transformed activations. -/
def specX (x : S1x128x4096.Idx → Elt Ideal .bf16) (su : S4096.Idx → Elt Ideal .f32) : S1x128x4096.Idx → Elt Ideal .bf16 :=
  fun i => ((hadR (vX x su (i 1)) (i 2).val : ℝ) : EReal)

/-- The first result: the layer's output. -/
def specY (x : S1x128x4096.Idx → Elt Ideal .bf16) (codes : S896x256x32.Idx → Elt Ideal .i16) (rs : S14336.Idx → Elt Ideal .f32)
    (su : S4096.Idx → Elt Ideal .f32) (sv : S14336.Idx → Elt Ideal .f32) : S1x128x14336.Idx → Elt Ideal .bf16 :=
  fun i => ((hadR (vY x codes rs su (i 1)) (i 2).val : ℝ) : EReal) * sv (ix1 (i 2))

/-- Every element is a real number. -/
def Fin' {s : Shape} (f : s.Idx → EReal) : Prop := ∀ i, ∃ r : ℝ, f i = (r : EReal)

/-- A finite activation times its finite sign is the real number `vX`. -/
theorem vX_eq (x : S1x128x4096.Idx → Elt Ideal .bf16) (su : S4096.Idx → Elt Ideal .f32) (hx : Fin' x) (hs : Fin' su) (s : Fin 128) (k : Fin 4096) :
    x (ix3 0 s k) * su (ix1 k) = ((vX x su s k.val : ℝ) : EReal) := by
  unfold vX
  rw [dif_pos k.isLt]
  obtain ⟨a, ha⟩ := hx (ix3 0 s k)
  obtain ⟨b, hb⟩ := hs (ix1 k)
  show x (ix3 0 s k) * su (ix1 k) = ((EReal.toReal (x (ix3 0 s k) * su (ix1 k)) : ℝ) : EReal)
  rw [ha, hb, ← EReal.coe_mul, EReal.toReal_coe]

/-- A code of the array is `codeN` at its indices. -/
theorem codeN_eq (codes : S896x256x32.Idx → Elt Ideal .i16) (b : Fin 896) (w : Fin 32) (bc : Fin 256) :
    codes (ix3 b bc w) = codeN codes b.val w.val bc.val := by
  unfold codeN
  rw [dif_pos ⟨b.isLt, w.isLt, bc.isLt⟩]

/-- A row's product times its finite scale is the real number `vY`. -/
theorem vY_eq (x : S1x128x4096.Idx → Elt Ideal .bf16) (codes : S896x256x32.Idx → Elt Ideal .i16) (rs : S14336.Idx → Elt Ideal .f32)
    (su : S4096.Idx → Elt Ideal .f32) (hr : Fin' rs) (s : Fin 128) (o : Fin 14336) :
    ((accR (codeN codes) (hadR (vX x su s)) o.val : ℝ) : EReal) * rs (ix1 o) = ((vY x codes rs su s o.val : ℝ) : EReal) := by
  unfold vY
  rw [dif_pos o.isLt]
  obtain ⟨b, hb⟩ := hr (ix1 o)
  show _ * rs (ix1 o) = ((_ * EReal.toReal (rs (ix1 o)) : ℝ) : EReal)
  rw [hb, ← EReal.coe_mul, EReal.toReal_coe]

/-- A block of 1024 values is transformed on its own. -/
theorem hadR_shift (v : ℕ → ℝ) (t o : ℕ) (ho : o < 1024) : hadR (fun k => v (1024 * t + k)) o = hadR v (1024 * t + o) := by
  unfold hadR
  rw [show o / 1024 = 0 by omega, show (1024 * t + o) / 1024 = t by omega, show (1024 * t + o) % 1024 = o by omega, show o % 1024 = o by omega]
  simp only [Nat.mul_zero, Nat.zero_add]

/-- The rows of a point's codes are the rows of all of them, 64 block rows a point. -/
theorem accR_shift (code : ℕ → ℕ → ℕ → BitVec 16) (xr : ℕ → ℝ) (t o : ℕ) : accR (fun b => code (64 * t + b)) xr o = accR code xr (1024 * t + o) := by
  unfold accR wK
  rw [show (1024 * t + o) / 16 = 64 * t + o / 16 by omega, show (1024 * t + o) % 16 = o % 16 by omega]

end Cert.KernelIdeal.Hand

end
-- ==== Proof.KRes.lean ====
/- The kernel program's results over the extended reals, at finite inputs: what its two result arrays hold at the end. -/
module

public import proofs.«01_k».proof.Proof.Spec
public import proofs.«01_k».proof.Proof.Frame
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem Idealize.ShloMosaic.Pipeline
open Cert.KernelIdeal Cert.KernelIdeal.Gen

variable (m : (ℓ : Loc nD τ sig) → Buf (Elt Ideal) ℓ) (c : Dev nD)

/-- Every window's block index, by the point. -/
theorem idx : ∀ t : Fin cfg0.N, win0_0.index t = ![0, 0] ∧ win0_1.index t = ![0, 0] ∧ win0_2.index t = ![t.val, 0, 0]
    ∧ win0_3.index t = ![0, t.val] ∧ win0_4.index t = ![0, t.val] ∧ win0_5.index t = ![0, t.val] ∧ win0_6.index t = ![0, 0] :=
  (by decide +kernel : ∀ t : Fin grid0.N, _)

/-- The activations as a matrix, at an index. -/
theorem cast_v1 (x : S1x128x4096.Idx → Elt Ideal .bf16) (s : Fin 128) (k : Fin 4096) : shapeCast S128x4096 x shapeCasts_S1x128x4096_S128x4096 (ix2 s k) = x (ix3 0 s k) := by
  pointwise

/-- The input signs as a row, at an index. -/
theorem cast_v2 (x : S4096.Idx → Elt Ideal .f32) (k : Fin 4096) : shapeCast S1x4096 x shapeCasts_S4096_S1x4096 (ix2 0 k) = x (ix1 k) := by
  pointwise

/-- The codes with their last two axes swapped, at an index. -/
theorem cast_v0 (x : S896x256x32.Idx → Elt Ideal .i16) (b : Fin 896) (w : Fin 32) (bc : Fin 256) : transpose S896x32x256 [0, 2, 1] x transposes_S896x256x32_S896x32x256_0_2_1 (ix3 b w bc) = x (ix3 b bc w) := by
  pointwise

/-- A vector over the output rows as a row, at an index. -/
theorem cast_v3 (x : S14336.Idx → Elt Ideal .f32) (k : Fin 14336) : shapeCast S1x14336 x shapeCasts_S14336_S1x14336 (ix2 0 k) = x (ix1 k) := by
  pointwise

/-- The kernel's first operand is the activations. -/
theorem V_v1 (s : Fin 128) (k : Fin 4096) : V m c main_v1 (ix2 s k) = m ((c : Thread nD τ).loc main_arg0) (ix3 0 s k) := by
  have h : V m c main_v1 = shapeCast S128x4096 (m ((c : Thread nD τ).loc main_arg0)) shapeCasts_S1x128x4096_S128x4096 := by
    show StableHlo.after hostOps0 (fun b => m (c, b)) (Proc.devRef .tc main_v1) = _
    simp only [hostOps0]
    after_results_simp <;> rfl
  exact (congrFun h _).trans (cast_v1 _ ..)

/-- Every grid point reads the whole of the activations. -/
theorem iblk0_apply (t : Fin cfg0.N) (s : Fin 128) (k : Fin 4096) : iblk m c 0 t (ix2 s k) = m ((c : Thread nD τ).loc main_arg0) (ix3 0 s k) := by
  refine Eq.trans (?_ : _ = V m c main_v1 (ix2 s k)) (V_v1 m c ..)
  blk_ext! [iblk, idx t]

/-- The kernel's second operand is the input signs. -/
theorem V_v2 (k : Fin 4096) : V m c main_v2 (ix2 0 k) = m ((c : Thread nD τ).loc main_arg3) (ix1 k) := by
  have h : V m c main_v2 = shapeCast S1x4096 (m ((c : Thread nD τ).loc main_arg3)) shapeCasts_S4096_S1x4096 := by
    show StableHlo.after hostOps0 (fun b => m (c, b)) (Proc.devRef .tc main_v2) = _
    simp only [hostOps0]
    after_results_simp <;> rfl
  exact (congrFun h _).trans (cast_v2 _ ..)

/-- Every grid point reads the whole of the input signs. -/
theorem iblk1_apply (t : Fin cfg0.N) (k : Fin 4096) : iblk m c 1 t (ix2 0 k) = m ((c : Thread nD τ).loc main_arg3) (ix1 k) := by
  refine Eq.trans (?_ : _ = V m c main_v2 (ix2 0 k)) (V_v2 m c ..)
  blk_ext! [iblk, idx t]

/-- The kernel's third operand is the codes, with the word before the column block. -/
theorem V_v0 (b : Fin 896) (w : Fin 32) (bc : Fin 256) : V m c main_v0 (ix3 b w bc) = m ((c : Thread nD τ).loc main_arg1) (ix3 b bc w) := by
  have h : V m c main_v0 = transpose S896x32x256 [0, 2, 1] (m ((c : Thread nD τ).loc main_arg1)) transposes_S896x256x32_S896x32x256_0_2_1 := by
    show StableHlo.after hostOps0 (fun b => m (c, b)) (Proc.devRef .tc main_v0) = _
    simp only [hostOps0]
    after_results_simp <;> rfl
  exact (congrFun h _).trans (cast_v0 _ ..)

/-- Grid point `t` reads the codes of 64 row blocks, from `64 t` on. -/
theorem iblk2_apply (t : Fin cfg0.N) (b : Fin 64) (w : Fin 32) (bc : Fin 256) :
    iblk m c 2 t (ix3 b w bc) = m ((c : Thread nD τ).loc main_arg1) (ix3 ⟨64 * t.val + b.val, by have : t.val < 14 := t.isLt; omega⟩ bc w) := by
  refine Eq.trans (?_ : _ = V m c main_v0 (ix3 ⟨64 * t.val + b.val, by have : t.val < 14 := t.isLt; omega⟩ w bc)) (V_v0 m c ..)
  blk_ext! [iblk, idx t]

/-- The kernel's fourth operand is the row scales. -/
theorem V_v3 (k : Fin 14336) : V m c main_v3 (ix2 0 k) = m ((c : Thread nD τ).loc main_arg2) (ix1 k) := by
  have h : V m c main_v3 = shapeCast S1x14336 (m ((c : Thread nD τ).loc main_arg2)) shapeCasts_S14336_S1x14336 := by
    show StableHlo.after hostOps0 (fun b => m (c, b)) (Proc.devRef .tc main_v3) = _
    simp only [hostOps0]
    after_results_simp <;> rfl
  exact (congrFun h _).trans (cast_v3 _ ..)

/-- Grid point `t` reads 1024 row scales, from `1024 t` on. -/
theorem iblk3_apply (t : Fin cfg0.N) (k : Fin 1024) :
    iblk m c 3 t (ix2 0 k) = m ((c : Thread nD τ).loc main_arg2) (ix1 ⟨1024 * t.val + k.val, by have : t.val < 14 := t.isLt; omega⟩) := by
  refine Eq.trans (?_ : _ = V m c main_v3 (ix2 0 ⟨1024 * t.val + k.val, by have : t.val < 14 := t.isLt; omega⟩)) (V_v3 m c ..)
  blk_ext! [iblk, idx t]

/-- The kernel's fifth operand is the output signs. -/
theorem V_v4 (k : Fin 14336) : V m c main_v4 (ix2 0 k) = m ((c : Thread nD τ).loc main_arg4) (ix1 k) := by
  have h : V m c main_v4 = shapeCast S1x14336 (m ((c : Thread nD τ).loc main_arg4)) shapeCasts_S14336_S1x14336 := by
    show StableHlo.after hostOps0 (fun b => m (c, b)) (Proc.devRef .tc main_v4) = _
    simp only [hostOps0]
    after_results_simp <;> rfl
  exact (congrFun h _).trans (cast_v3 _ ..)

/-- Grid point `t` reads 1024 output signs, from `1024 t` on. -/
theorem iblk4_apply (t : Fin cfg0.N) (k : Fin 1024) :
    iblk m c 4 t (ix2 0 k) = m ((c : Thread nD τ).loc main_arg4) (ix1 ⟨1024 * t.val + k.val, by have : t.val < 14 := t.isLt; omega⟩) := by
  refine Eq.trans (?_ : _ = V m c main_v4 (ix2 0 ⟨1024 * t.val + k.val, by have : t.val < 14 := t.isLt; omega⟩)) (V_v4 m c ..)
  blk_ext! [iblk, idx t]

/-- The argument arrays of core `c`. -/
abbrev a0 : S1x128x4096.Idx → Elt Ideal .bf16 := m ((c : Thread nD τ).loc main_arg0)
/-- The codes. -/
abbrev a1 : S896x256x32.Idx → Elt Ideal .i16 := m ((c : Thread nD τ).loc main_arg1)
/-- The row scales. -/
abbrev a2 : S14336.Idx → Elt Ideal .f32 := m ((c : Thread nD τ).loc main_arg2)
/-- The input signs. -/
abbrev a3 : S4096.Idx → Elt Ideal .f32 := m ((c : Thread nD τ).loc main_arg3)
/-- The output signs. -/
abbrev a4 : S14336.Idx → Elt Ideal .f32 := m ((c : Thread nD τ).loc main_arg4)

/-- The blocks of the activations and of their scales. -/
abbrev b0 (t : Fin cfg0.N) : S128x4096.Idx → Elt Ideal .bf16 := iblk m c 0 t
/-- The block of the input signs. -/
abbrev b1 (t : Fin cfg0.N) : S1x4096.Idx → Elt Ideal .f32 := iblk m c 1 t

/-- The blocks the first point transforms are the arguments themselves. -/
theorem scaled_eq (hx : Fin' (a0 m c)) (hs : Fin' (a3 m c)) (t : Fin cfg0.N) (s : Fin 128) (k : Fin 4096) :
    b0 m c t (ix2 s k) * b1 m c t (ix2 0 k) = ((vX (a0 m c) (a3 m c) s k.val : ℝ) : EReal) := by
  refine Eq.trans ?_ (vX_eq (a0 m c) (a3 m c) hx hs s k)
  exact congrArg₂ (fun a b : EReal => a * b) (iblk0_apply m c t s k) (iblk1_apply m c t k)

/-- The second result's buffer holds the transformed activations. -/
theorem xrAt_apply (hx : Fin' (a0 m c)) (hs : Fin' (a3 m c)) (s : Fin 128) (k : Fin 4096) :
    xrAt m c (ix2 s k) = specX (a0 m c) (a3 m c) (ix3 0 s k) := by
  unfold xrAt
  exact XR_apply _ _ s _ (scaled_eq m c hx hs t0_0 s) k

/-- The first result's block at point `t` is the layer's output, 1024 columns a point. -/
theorem yAt_apply (hx : Fin' (a0 m c)) (hr : Fin' (a2 m c)) (hs : Fin' (a3 m c)) (t : Fin cfg0.N) (s : Fin 128) (o : Fin 1024) :
    yAt m c t (ix2 s o) = specY (a0 m c) (a1 m c) (a2 m c) (a3 m c) (a4 m c) (ix3 0 s ⟨1024 * t.val + o.val, by have : t.val < 14 := t.isLt; omega⟩) := by
  have ht : t.val < 14 := t.isLt
  unfold yAt xpAt
  rw [Y_apply _ _ _ s (fun k => vY (a0 m c) (a1 m c) (a2 m c) (a3 m c) s (1024 * t.val + k)) (fun k => ?_) o, iblk4_apply, hadR_shift _ _ _ o.isLt]
  · rfl
  · rw [ACC_apply (iblk m c 2 t) (fun b => codeN (a1 m c) (64 * t.val + b)) (fun b w bc => ?_) _ s (hadR (vX (a0 m c) (a3 m c) s))
      (XT_apply _ _ s _ (scaled_eq m c hx hs t0_0 s)) k, iblk3_apply, accR_shift]
    · exact vY_eq (a0 m c) (a1 m c) (a2 m c) (a3 m c) hr s ⟨1024 * t.val + k.val, by omega⟩
    · rw [iblk2_apply]
      exact codeN_eq (a1 m c) ⟨64 * t.val + b.val, by omega⟩ w bc

/-- The first result's array after the launch. -/
theorem arr5 (hx : Fin' (a0 m c)) (hr : Fin' (a2 m c)) (hs : Fin' (a3 m c)) :
    (dats m 0 c).arrAt 5 cfg0.N = fun i : S128x14336.Idx => specY (a0 m c) (a1 m c) (a2 m c) (a3 m c) (a4 m c) (ix3 0 (i 0) (i 1)) := by
  refine (dats m 0 c).arrAt_eq_of_covers 5 _ (by decide +kernel) fun t hf y => ?_
  blk_simp
  rw [after0_5]
  refine ((congrArg (yAt m c t) (eq_ix2 (y : S128x1024.Idx))).trans (yAt_apply m c hx hr hs t (y 0) (y 1))).trans (congrArg _ ?_)
  blk_ext [idx t]

/-- The second result's array after the launch. -/
theorem arr6 (hx : Fin' (a0 m c)) (hs : Fin' (a3 m c)) :
    (dats m 0 c).arrAt 6 cfg0.N = fun i : S128x4096.Idx => specX (a0 m c) (a3 m c) (ix3 0 (i 0) (i 1)) := by
  refine (dats m 0 c).arrAt_eq_of_after_last 6 t0_13 (by decide +kernel) _ fun j => ?_
  blk_simp
  rw [after0_6]
  exact (congrArg (xrAt m c) (eq_ix2 (j : S128x4096.Idx))).trans (xrAt_apply m c hx hs (j 0) (j 1))

/-- A matrix equal to `G` at every token and row, given the leading axis of one, is `G`: first result. -/
theorem uncast_v6 (G : S1x128x14336.Idx → Elt Ideal .bf16) {x : S128x14336.Idx → Elt Ideal .bf16} (h : ∀ s k, x (ix2 s k) = G (ix3 0 s k)) :
    shapeCast S1x128x14336 x shapeCasts_S128x14336_S1x128x14336 = G := by
  funext i
  idx_vars i
  pointwise
  rw [h, Subsingleton.elim i0 0]

/-- The same for the second result. -/
theorem uncast_v7 (G : S1x128x4096.Idx → Elt Ideal .bf16) {x : S128x4096.Idx → Elt Ideal .bf16} (h : ∀ s k, x (ix2 s k) = G (ix3 0 s k)) :
    shapeCast S1x128x4096 x shapeCasts_S128x4096_S1x128x4096 = G := by
  funext i
  idx_vars i
  pointwise
  rw [h, Subsingleton.elim i0 0]

/-- The first result: the layer's output. -/
theorem res6 (hx : Fin' (a0 m c)) (hr : Fin' (a2 m c)) (hs : Fin' (a3 m c)) :
    Pipeline.afterTail₀ cfgs (dats m) 0 (V0 m) [hostOps1] c main_v6 = specY (a0 m c) (a1 m c) (a2 m c) (a3 m c) (a4 m c) := by
  have h : Pipeline.afterTail₀ cfgs (dats m) 0 (V0 m) [hostOps1] c main_v6
      = shapeCast S1x128x14336 ((dats m 0 c).arrAt 5 cfg0.N : S128x14336.Idx → Elt Ideal .bf16) shapeCasts_S128x14336_S1x128x14336 := by
    unfold Pipeline.afterTail₀
    show StableHlo.after hostOps1 _ (Proc.devRef .tc main_v6) = _
    simp only [hostOps1]
    after_results_simp
    exact congrArg (fun X : S128x14336.Idx → Elt Ideal .bf16 => shapeCast S1x128x14336 X shapeCasts_S128x14336_S1x128x14336)
      (Pipeline.withArrays_arr spec0 (by decide) c (V0 m c) (fun w => (dats m 0 c).arrAt w (cfgs 0).N) 5)
  refine h.trans ?_
  rw [arr5 m c hx hr hs]
  exact uncast_v6 _ fun s k => rfl

/-- The second result: the transformed activations. -/
theorem res7 (hx : Fin' (a0 m c)) (hs : Fin' (a3 m c)) :
    Pipeline.afterTail₀ cfgs (dats m) 0 (V0 m) [hostOps1] c main_v7 = specX (a0 m c) (a3 m c) := by
  have h : Pipeline.afterTail₀ cfgs (dats m) 0 (V0 m) [hostOps1] c main_v7
      = shapeCast S1x128x4096 ((dats m 0 c).arrAt 6 cfg0.N : S128x4096.Idx → Elt Ideal .bf16) shapeCasts_S128x4096_S1x128x4096 := by
    unfold Pipeline.afterTail₀
    show StableHlo.after hostOps1 _ (Proc.devRef .tc main_v7) = _
    simp only [hostOps1]
    after_results_simp
    exact congrArg (fun X : S128x4096.Idx → Elt Ideal .bf16 => shapeCast S1x128x4096 X shapeCasts_S128x4096_S1x128x4096)
      (Pipeline.withArrays_arr spec0 (by decide) c (V0 m c) (fun w => (dats m 0 c).arrAt w (cfgs 0).N) 6)
  refine h.trans ?_
  rw [arr6 m c hx hs]
  exact uncast_v7 _ fun s k => rfl

/-- The kernel program's run at finite activations and scales: the two results, and the arguments unchanged. -/
theorem value_run (ρ : Dev nD → PrngReg) (H : ∀ c : Dev nD, Fin' (a0 m c) ∧ Fin' (a2 m c) ∧ Fin' (a3 m c)) :
    θ_run defs (onTc (τ := τ) (main (F := Ideal))) ⟨m, fun _ => 0, ρ⟩ (fun r => ∀ c : Dev nD,
      r.2.mem ((c.tc : Thread nD τ).loc main_v6) = specY (a0 m c) (a1 m c) (a2 m c) (a3 m c) (a4 m c)
      ∧ r.2.mem ((c.tc : Thread nD τ).loc main_v7) = specX (a0 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v6 (Pipeline.mem_restRefs_of main_v6 (by decide) (by decide))).trans (res6 m c (H c).1 (H c).2.1 (H c).2.2),
    ((h.1 c).2 main_v7 (Pipeline.mem_restRefs_of main_v7 (by decide) (by decide))).trans (res7 m c (H c).1 (H c).2.2),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c)⟩) (run_main m ρ)

end Cert.KernelIdeal.Hand

end
-- ==== Proof.RefVal.lean ====
/- The reference's results over the extended reals, at finite inputs: its composed term in named pieces, and each piece at
   an index. -/
module

public import proofs.«01_k».proof.Proof.Spec
public import proofs.«01_k».proof.Proof.Gen.ReferenceIdeal.Run

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.KernelIdeal.Hand (sgn wordSign hadR coe_sum scale_eq st pair_eq widen masked dec dec_eq decR dec_widen accR wK codeN codeN_eq vX vX_eq vY vY_eq specX specY)

/-- The signs of the transform. -/
def rHad : FVec Ideal S1024x1024 .f32 := sitofp .f32 (subi (broadcastInDim S1024x1024 ![] bcast_S_S1024x1024 (constantI S_ 32 1#32)) (muli (broadcastInDim S1024x1024 ![] bcast_S_S1024x1024 (constantI S_ 32 2#32)) (andi (ctpop (andi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 1#32)))))
/-- The transformed activations. -/
def rXr (x : FVec Ideal S1x128x4096 .bf16) (su : FVec Ideal S4096 .f32) : FVec Ideal S1x128x4096 .bf16 :=
  truncf .bf16 (shapeCast _ (mulf (Host.dotGeneral dot_S1x128x4x1024_S1024x1024_S1x128x4x1024_3_0_012_1_n_n (some .fp32) (shapeCast _ (mulf (extf .f32 x bitsLt_bf16_f32) (broadcastInDim S1x128x4096 ![0, 1, 2] bcast_S1x1x4096_S1x128x4096_0_1_2 (broadcastInDim S1x1x4096 ![2] bcast_S4096_S1x1x4096_2 su))) shapeCasts_S1x128x4096_S1x128x4x1024) rHad) (broadcastInDim S1x128x4x1024 ![] bcast_S_S1x128x4x1024 (constant S_ .f32 0x3D000000#32))) shapeCasts_S1x128x4x1024_S1x128x4096) bitsLt_bf16_f32
/-- The codes, each block's one place on. -/
def rRoll (codes : IVec S896x256x32 16) : IVec S896x256x32 16 := concatenate S896x256x32 2 [⟨S896x256x31, (extractStridedSlice S896x256x31 ![0, 0, 1] codes slices_S896x256x32_S896x256x31_0_0_1)⟩, ⟨S896x256x1, (extractStridedSlice S896x256x1 ![0, 0, 0] codes slices_S896x256x32_S896x256x1_0_0_0)⟩] concatenates_S896x256x31_S896x256x1_S896x256x32_d2
/-- A block's codes by output row. -/
def rLay (codes : IVec S896x256x32 16) : IVec S14336x512 16 := shapeCast _ (transpose S896x16x256x2 [0, 2, 1, 3] (shapeCast _ codes shapeCasts_S896x256x32_S896x256x16x2) transposes_S896x256x16x2_S896x16x256x2_0_2_1_3) shapeCasts_S896x16x256x2_S14336x512
/-- The states of the trellis. -/
def rState (w wn : IVec S14336x512 16) : IVec S14336x8x512 32 :=
  andi (Host.shrui (broadcastInDim S14336x8x512 ![0, 1, 2] bcast_S14336x1x512_S14336x8x512_0_1_2 (broadcastInDim S14336x1x512 ![0, 2] bcast_S14336x512_S14336x1x512_0_2 (ori (Host.shli (extui 32 w natLt_16_32) (broadcastInDim S14336x512 ![] bcast_S_S14336x512 (constantI S_ 32 16#32))) (extui 32 wn natLt_16_32)))) (broadcastInDim S14336x8x512 ![0, 1, 2] bcast_S1x8x1_S14336x8x512_0_1_2 (broadcastInDim S1x8x1 ![1] bcast_S8_S1x8x1_1 (subi (broadcastInDim S8 ![] bcast_S_S8 (constantI S_ 32 16#32)) (muli (broadcastInDim S8 ![] bcast_S_S8 (constantI S_ 32 2#32)) (iotaInDim S8 32 0)))))) (broadcastInDim S14336x8x512 ![] bcast_S_S14336x8x512 (constantI S_ 32 65535#32))
/-- The masked hash of the states. -/
def rHash (c1 c2 c3 c4 : BitVec 32) (s : IVec S14336x8x512 32) : IVec S14336x8x512 32 :=
  xori (andi (addi (muli s (broadcastInDim S14336x8x512 ![] bcast_S_S14336x8x512 (constantI S_ 32 c1))) (broadcastInDim S14336x8x512 ![] bcast_S_S14336x8x512 (constantI S_ 32 c2))) (broadcastInDim S14336x8x512 ![] bcast_S_S14336x8x512 (constantI S_ 32 c3))) (broadcastInDim S14336x8x512 ![] bcast_S_S14336x8x512 (constantI S_ 32 c4))
/-- The weights of the masked hashes. -/
def rDec (c5 : BitVec 32) (h : IVec S14336x8x512 32) : FVec Ideal S14336x8x512 .bf16 :=
  truncf .bf16 (addf (bitcastToFloat (F := Ideal) .f32 (ori (Host.shli (andi (andi h (broadcastInDim S14336x8x512 ![] bcast_S_S14336x8x512 (constantI S_ 32 65535#32))) (broadcastInDim S14336x8x512 ![] bcast_S_S14336x8x512 (constantI S_ 32 32768#32))) (broadcastInDim S14336x8x512 ![] bcast_S_S14336x8x512 (constantI S_ 32 16#32))) (addi (Host.shli (andi (andi h (broadcastInDim S14336x8x512 ![] bcast_S_S14336x8x512 (constantI S_ 32 65535#32))) (broadcastInDim S14336x8x512 ![] bcast_S_S14336x8x512 (constantI S_ 32 32767#32))) (broadcastInDim S14336x8x512 ![] bcast_S_S14336x8x512 (constantI S_ 32 13#32))) (broadcastInDim S14336x8x512 ![] bcast_S_S14336x8x512 (constantI S_ 32 c5))))) (bitcastToFloat (F := Ideal) .f32 (ori (Host.shli (andi (Host.shrui h (broadcastInDim S14336x8x512 ![] bcast_S_S14336x8x512 (constantI S_ 32 16#32))) (broadcastInDim S14336x8x512 ![] bcast_S_S14336x8x512 (constantI S_ 32 32768#32))) (broadcastInDim S14336x8x512 ![] bcast_S_S14336x8x512 (constantI S_ 32 16#32))) (addi (Host.shli (andi (Host.shrui h (broadcastInDim S14336x8x512 ![] bcast_S_S14336x8x512 (constantI S_ 32 16#32))) (broadcastInDim S14336x8x512 ![] bcast_S_S14336x8x512 (constantI S_ 32 32767#32))) (broadcastInDim S14336x8x512 ![] bcast_S_S14336x8x512 (constantI S_ 32 13#32))) (broadcastInDim S14336x8x512 ![] bcast_S_S14336x8x512 (constantI S_ 32 c5)))))) bitsLt_bf16_f32
/-- The layer's output from the transformed activations and the weights. -/
def rY (xr : FVec Ideal S1x128x4096 .bf16) (wt : FVec Ideal S14336x8x512 .bf16) (rs sv : FVec Ideal S14336 .f32) : FVec Ideal S1x128x14336 .bf16 :=
  truncf .bf16 (mulf (shapeCast _ (mulf (Host.dotGeneral dot_S1x128x14x1024_S1024x1024_S1x128x14x1024_3_0_012_1_n_n (some .fp32) (shapeCast _ (mulf (Host.dotGeneral dot_S1x128x4096_S14336x4096_S1x128x14336_2_1_01_0_n_n none (shapeCast _ (transpose S1x128x8x512 [0, 1, 3, 2] (shapeCast _ xr shapeCasts_S1x128x4096_S1x128x512x8) transposes_S1x128x512x8_S1x128x8x512_0_1_3_2) shapeCasts_S1x128x8x512_S1x128x4096) (shapeCast _ wt shapeCasts_S14336x8x512_S14336x4096)) (broadcastInDim S1x128x14336 ![0, 1, 2] bcast_S1x1x14336_S1x128x14336_0_1_2 (broadcastInDim S1x1x14336 ![2] bcast_S14336_S1x1x14336_2 rs))) shapeCasts_S1x128x14336_S1x128x14x1024) rHad) (broadcastInDim S1x128x14x1024 ![] bcast_S_S1x128x14x1024 (constant S_ .f32 0x3D000000#32))) shapeCasts_S1x128x14x1024_S1x128x14336) (broadcastInDim S1x128x14336 ![0, 1, 2] bcast_S1x1x14336_S1x128x14336_0_1_2 (broadcastInDim S1x1x14336 ![2] bcast_S14336_S1x1x14336_2 sv))) bitsLt_bf16_f32

/-- The signs are the kernel's. -/
theorem rHad_apply (a b : Fin 1024) : rHad (ix2 a b) = ((sgn a.val b.val : ℝ) : EReal) := by
  unfold rHad
  pointwise
  rfl

/-- The transform at an index. -/
theorem rXr_apply (x : FVec Ideal S1x128x4096 .bf16) (su : FVec Ideal S4096 .f32) (s : Fin 128) (v : ℕ → ℝ)
    (h : ∀ k : Fin 4096, x (ix3 0 s k) * su (ix1 k) = ((v k.val : ℝ) : EReal)) (c : Fin 4096) :
    rXr x su (ix3 0 s c) = ((hadR v c.val : ℝ) : EReal) := by
  unfold rXr
  pointwise
  unfold hadR
  rw [EReal.coe_mul, ← coe_sum, scale_eq]
  refine congrArg (fun a : EReal => a * _) (Finset.sum_congr rfl fun k _ => ?_)
  rw [h, rHad_apply, ← EReal.coe_mul]
  dsimp only
  rw [Nat.mul_comm 1024 (c.val / 1024)]

/-- A code's successor in its block. -/
theorem rRoll_apply (codes : IVec S896x256x32 16) (b : Fin 896) (bc : Fin 256) (w : Fin 32) :
    rRoll codes (ix3 b bc w) = codes (ix3 b bc ⟨(w.val + 1) % 32, Nat.mod_lt _ (by decide)⟩) := by
  unfold rRoll
  pointwise
  split
  · refine congrArg (fun i => codes (ix3 b bc i)) (Fin.ext ?_)
    dsimp only
    omega
  · refine congrArg (fun i => codes (ix3 b bc i)) (Fin.ext ?_)
    dsimp only
    omega

/-- Output row `o` reads block row `o / 16`. -/
theorem rLay_apply (codes : IVec S896x256x32 16) (o : Fin 14336) (k : Fin 512) :
    rLay codes (ix2 o k) = codes (ix3 ⟨o.val / 16, by omega⟩ ⟨k.val / 2, by omega⟩ ⟨2 * (o.val % 16) + k.val % 2, by omega⟩) := by
  unfold rLay
  pointwise
  refine congrArg (fun i => codes (ix3 _ _ i)) (Fin.ext ?_)
  dsimp only
  omega

/-- The shift of field `f` is `16 - 2 f`. -/
theorem shift_word : ∀ f : Fin 8, IntOp.subi 16#32 (IntOp.muli 2#32 (BitVec.ofNat 32 f.val)) = BitVec.ofNat 32 (16 - 2 * f.val) := by decide

/-- A state is 16 bits of two neighbouring codes. -/
theorem rState_apply (w wn : IVec S14336x512 16) (o : Fin 14336) (f : Fin 8) (k : Fin 512) :
    rState w wn (ix3 o f k) = st (w (ix2 o k)) (wn (ix2 o k)) f.val := by
  unfold rState
  pointwise
  rw [shift_word]
  unfold st
  rw [← pair_eq]

/-- The masked hash at an index. -/
theorem rHash_apply (c1 c2 c3 c4 : BitVec 32) (s : IVec S14336x8x512 32) (o : Fin 14336) (f : Fin 8) (k : Fin 512) :
    rHash c1 c2 c3 c4 s (ix3 o f k) = IntOp.xori (IntOp.andi (IntOp.addi (IntOp.muli (s (ix3 o f k)) c1) c2) c3) c4 := by
  unfold rHash
  pointwise

/-- The sum of the two widened halves at an index. -/
theorem rDec_apply (c5 : BitVec 32) (h : IVec S14336x8x512 32) (o : Fin 14336) (f : Fin 8) (k : Fin 512) :
    rDec c5 h (ix3 o f k) = Ideal.ofBits .f32 (IntOp.ori (IntOp.shli .host (IntOp.andi (IntOp.andi (h (ix3 o f k)) 65535#32) 32768#32) 16#32)
        (IntOp.addi (IntOp.shli .host (IntOp.andi (IntOp.andi (h (ix3 o f k)) 65535#32) 32767#32) 13#32) c5))
      + Ideal.ofBits .f32 (IntOp.ori (IntOp.shli .host (IntOp.andi (IntOp.shrui .host (h (ix3 o f k)) 16#32) 32768#32) 16#32)
        (IntOp.addi (IntOp.shli .host (IntOp.andi (IntOp.shrui .host (h (ix3 o f k)) 16#32) 32767#32) 13#32) c5)) := by
  unfold rDec
  pointwise

/-- The weights. -/
def rWt (codes : IVec S896x256x32 16) : FVec Ideal S14336x8x512 .bf16 :=
  rDec 939524096#32 (rHash 89226354#32 64248484#32 2415890431#32 996162400#32 (rState (rLay codes) (rLay (rRoll codes))))

/-- The reference's two widened halves of a state's masked hash add up to the decoded weight. -/
theorem decode_word (s : BitVec 32) :
    Ideal.ofBits .f32 (IntOp.ori (IntOp.shli .host (IntOp.andi (IntOp.andi (masked (Cert.KernelIdeal.Hand.hash s)) 65535#32) 32768#32) 16#32)
        (IntOp.addi (IntOp.shli .host (IntOp.andi (IntOp.andi (masked (Cert.KernelIdeal.Hand.hash s)) 65535#32) 32767#32) 13#32) 939524096#32))
      + Ideal.ofBits .f32 (IntOp.ori (IntOp.shli .host (IntOp.andi (IntOp.shrui .host (masked (Cert.KernelIdeal.Hand.hash s)) 16#32) 32768#32) 16#32)
        (IntOp.addi (IntOp.shli .host (IntOp.andi (IntOp.shrui .host (masked (Cert.KernelIdeal.Hand.hash s)) 16#32) 32767#32) 13#32) 939524096#32)) = ((decR s : ℝ) : EReal) :=
  (dec_widen s).trans (dec_eq s)

/-- The reference's hash, masked, is `masked` of the hash. -/
theorem masked_hash (s : BitVec 32) :
    IntOp.xori (IntOp.andi (IntOp.addi (IntOp.muli s 89226354#32) 64248484#32) 2415890431#32) 996162400#32 = masked (Cert.KernelIdeal.Hand.hash s) := by
  unfold masked Cert.KernelIdeal.Hand.hash
  rfl

/-- The weights at an index: the decoded state of two neighbouring codes. -/
theorem rWt_apply (codes : IVec S896x256x32 16) (o : Fin 14336) (f : Fin 8) (k : Fin 512) :
    rWt codes (ix3 o f k) = ((decR (st (codeN codes (o.val / 16) (2 * (o.val % 16) + k.val % 2) (k.val / 2))
      (codeN codes (o.val / 16) ((2 * (o.val % 16) + k.val % 2 + 1) % 32) (k.val / 2)) f.val) : ℝ) : EReal) := by
  unfold rWt
  rw [rDec_apply, rHash_apply, rState_apply, rLay_apply, rLay_apply, rRoll_apply, codeN_eq codes, codeN_eq codes, masked_hash, decode_word]

/-- The half of place `(a 8 + f) 256 + b` is `a`. -/
theorem place_hi (a f b : ℕ) (hf : f < 8) (hb : b < 256) : ((a * 8 + f) * 256 + b) / 2048 = a := by omega
/-- Its column block is `b`. -/
theorem place_lo (a f b : ℕ) (hb : b < 256) : ((a * 8 + f) * 256 + b) % 256 = b := by omega
/-- Its half and field are `a 8 + f`. -/
theorem place_mid (a f b : ℕ) (hb : b < 256) : ((a * 8 + f) * 256 + b) / 256 = a * 8 + f := by omega
/-- Its field is `f`. -/
theorem place_mid8 (a f b : ℕ) (hf : f < 8) (hb : b < 256) : ((a * 8 + f) * 256 + b) / 256 % 8 = f := by omega
/-- The field of place `f 512 + b 2 + a` is `f`. -/
theorem back_hi (a f b : ℕ) (ha : a < 2) (hb : b < 256) : (f * 512 + b * 2 + a) / 512 = f := by omega
/-- Its half is `a`. -/
theorem back_lo (a f b : ℕ) (ha : a < 2) : (f * 512 + b * 2 + a) % 2 = a := by omega
/-- Its column block is `b`. -/
theorem back_mid (a f b : ℕ) (ha : a < 2) (hb : b < 256) : (f * 512 + b * 2 + a) % 512 / 2 = b := by omega

/-- The order of the contracted places: the reference's place `e` is the kernel's place `order e`. -/
def order : Fin 4096 ≃ Fin 4096 where
  toFun e := ⟨(e.val % 2 * 8 + e.val / 512) * 256 + e.val % 512 / 2, by omega⟩
  invFun c := ⟨c.val / 256 % 8 * 512 + c.val % 256 * 2 + c.val / 2048, by omega⟩
  left_inv e := Fin.ext (by
    dsimp only
    rw [place_hi _ _ _ (by omega) (by omega), place_lo _ _ _ (by omega), place_mid8 _ _ _ (by omega) (by omega)]
    omega)
  right_inv c := Fin.ext (by
    dsimp only
    rw [back_hi _ _ _ (by omega) (by omega), back_lo _ _ _ (by omega), back_mid _ _ _ (by omega) (by omega)]
    omega)

/-- The reference's contraction is the kernel's, re-ordered. -/
theorem contract_eq (xr : FVec Ideal S1x128x4096 .bf16) (codes : IVec S896x256x32 16) (s : Fin 128) (r : ℕ → ℝ)
    (h : ∀ c : Fin 4096, xr (ix3 0 s c) = ((r c.val : ℝ) : EReal)) (o : Fin 14336) :
    ∑ e : Fin 4096, xr (ix3 0 s ⟨e.val % 512 * 8 + e.val / 512, by omega⟩) * rWt codes (ix3 o ⟨e.val / 512, by omega⟩ ⟨e.val % 512, by omega⟩)
      = ((accR (codeN codes) r o.val : ℝ) : EReal) := by
  unfold accR
  rw [← coe_sum]
  refine Fintype.sum_equiv order _ _ fun e => ?_
  rw [h, rWt_apply, ← EReal.coe_mul, mul_comm]
  unfold wK order
  simp only [Equiv.coe_fn_mk]
  rw [place_hi _ _ _ (by omega) (by omega), place_lo _ _ _ (by omega), place_mid8 _ _ _ (by omega) (by omega), place_mid _ _ _ (by omega),
    show e.val % 512 % 2 = e.val % 2 by omega, show e.val % 2 * 8 + e.val / 512 + 16 * (e.val % 512 / 2) = e.val % 512 * 8 + e.val / 512 by omega]

/-- The layer's output at an index. -/
theorem rY_apply (xr : FVec Ideal S1x128x4096 .bf16) (codes : IVec S896x256x32 16) (rs sv : FVec Ideal S14336 .f32) (s : Fin 128) (r v : ℕ → ℝ)
    (h : ∀ c : Fin 4096, xr (ix3 0 s c) = ((r c.val : ℝ) : EReal))
    (hv : ∀ o : Fin 14336, ((accR (codeN codes) r o.val : ℝ) : EReal) * rs (ix1 o) = ((v o.val : ℝ) : EReal)) (o : Fin 14336) :
    rY xr (rWt codes) rs sv (ix3 0 s o) = ((hadR v o.val : ℝ) : EReal) * sv (ix1 o) := by
  unfold rY
  pointwise
  refine congrArg (fun a : EReal => a * sv (ix1 o)) ?_
  unfold hadR
  rw [EReal.coe_mul, ← coe_sum, scale_eq]
  refine congrArg (fun a : EReal => a * _) (Finset.sum_congr rfl fun k _ => ?_)
  rw [contract_eq xr codes s r h ⟨o.val / 1024 * 1024 + k.val, by omega⟩, hv, rHad_apply, ← EReal.coe_mul]
  dsimp only
  rw [Nat.mul_comm 1024 (o.val / 1024)]

/-- The reference's term is these pieces composed. -/
theorem res0_eq (m : (ℓ : Loc nD τ sig) → Buf (Elt Ideal) ℓ) (c : Dev nD) :
    res_main_v102 m c = rY (rXr (m ((c.tc : Thread nD τ).loc main_arg0)) (m ((c.tc : Thread nD τ).loc main_arg3)))
      (rWt (m ((c.tc : Thread nD τ).loc main_arg1))) (m ((c.tc : Thread nD τ).loc main_arg2)) (m ((c.tc : Thread nD τ).loc main_arg4)) := by
  unfold res_main_v102 rY rXr rWt rDec rHash rState rLay rRoll rHad
  rfl

/-- The reference's second result is the transformed activations. -/
theorem rXr_spec (x : FVec Ideal S1x128x4096 .bf16) (su : FVec Ideal S4096 .f32) (hx : Cert.KernelIdeal.Hand.Fin' x) (hs : Cert.KernelIdeal.Hand.Fin' su) :
    rXr x su = specX x su := by
  funext i
  idx_vars i
  rw [Subsingleton.elim i0 0]
  exact rXr_apply x su i1 _ (vX_eq x su hx hs i1) i2

/-- The reference's first result is the layer's output. -/
theorem rY_spec (x : FVec Ideal S1x128x4096 .bf16) (codes : IVec S896x256x32 16) (rs sv : FVec Ideal S14336 .f32) (su : FVec Ideal S4096 .f32)
    (hx : Cert.KernelIdeal.Hand.Fin' x) (hr : Cert.KernelIdeal.Hand.Fin' rs) (hs : Cert.KernelIdeal.Hand.Fin' su) :
    rY (rXr x su) (rWt codes) rs sv = specY x codes rs su sv := by
  funext i
  idx_vars i
  rw [Subsingleton.elim i0 0]
  exact rY_apply _ codes rs sv i1 _ _ (rXr_apply x su i1 _ (vX_eq x su hx hs i1)) (vY_eq x codes rs su hr i1) i2

/-- The reference's run at finite activations and scales: its two results, and the arguments unchanged. -/
theorem value_run (m : (ℓ : Loc nD τ sig) → Buf (Elt Ideal) ℓ) (ρ : Dev nD → PrngReg)
    (H : ∀ c : Dev nD, Cert.KernelIdeal.Hand.Fin' (s := S1x128x4096) (m ((c.tc : Thread nD τ).loc main_arg0))
      ∧ Cert.KernelIdeal.Hand.Fin' (s := S14336) (m ((c.tc : Thread nD τ).loc main_arg2))
      ∧ Cert.KernelIdeal.Hand.Fin' (s := S4096) (m ((c.tc : Thread nD τ).loc main_arg3))) :
    θ_run defs (onTc (τ := τ) (main (F := Ideal))) ⟨m, fun _ => 0, ρ⟩ fun r => ∀ c : Dev nD,
      r.2.mem ((c.tc : Thread nD τ).loc main_v102) = specY (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v23) = specX (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((res0_eq m c).trans (rY_spec _ _ _ _ _ (H c).1 (H c).2.1 (H c).2.2)),
    (h c).2.1.trans (rXr_spec (m ((c.tc : Thread nD τ).loc main_arg0)) (m ((c.tc : Thread nD τ).loc main_arg3)) (H c).1 (H c).2.2), (h c).2.2⟩) (run m ρ)

end Cert.ReferenceIdeal.Hand

end
-- ==== Proof.Pre.lean ====
/- The precondition `finite_inputs`: its side conditions, and what it says of the arguments at an index. -/
module

public import proofs.«01_k».proof.Pre_finite_inputs
public import Idealize.ShloMosaic.Lib.Pointwise

@[expose] public section

set_option maxRecDepth 16384

noncomputable section

namespace Cert.Pre_finite_inputs.Hand

open Idealize.ShloMosaic
open Cert.Pre_finite_inputs

/-- The side conditions of the precondition's operations. -/
instance facts : Cert.Pre_finite_inputs.Facts where
  bitsLt_bf16_f32 := by decide
  bcast_S_S1x128x4096 := by decide
  bcast_S_S14336 := by decide
  bcast_S_S4096 := by decide

/-- A value whose absolute value is below something is a real number. -/
theorem real_of_abs_lt (a w : EReal) (h : BitVec.ofBool (decide (max a (-a) < w)) = 1#1) : ∃ r : ℝ, a = (r : EReal) := by
  have h1 : max a (-a) < w := by
    by_contra hn
    rw [decide_eq_false hn] at h
    exact absurd h (by decide)
  induction a using EReal.rec with
  | bot => exact absurd h1 (by simp)
  | coe r => exact ⟨r, rfl⟩
  | top => exact absurd h1 (by simp)

/-- Where the precondition holds, every entry of `x` is a real number. -/
theorem x_real (x : FVec Ideal S1x128x4096 .bf16) (codes : IVec S896x256x32 16) (rs : FVec Ideal S14336 .f32) (su : FVec Ideal S4096 .f32)
    (sv : FVec Ideal S14336 .f32) (h : (fn (F := Ideal) x codes rs su sv).1 = fun _ => 1#1) (i : S1x128x4096.Idx) : ∃ r : ℝ, x i = (r : EReal) := by
  have h' := congrFun h i
  pointwise [fn] at h'
  exact real_of_abs_lt _ _ h'

/-- Where the precondition holds, every entry of `rs` is a real number. -/
theorem rs_real (x : FVec Ideal S1x128x4096 .bf16) (codes : IVec S896x256x32 16) (rs : FVec Ideal S14336 .f32) (su : FVec Ideal S4096 .f32)
    (sv : FVec Ideal S14336 .f32) (h : (fn (F := Ideal) x codes rs su sv).2.1 = fun _ => 1#1) (i : S14336.Idx) : ∃ r : ℝ, rs i = (r : EReal) := by
  have h' := congrFun h i
  pointwise [fn] at h'
  exact real_of_abs_lt _ _ h'

/-- Where the precondition holds, every entry of `su` is a real number. -/
theorem su_real (x : FVec Ideal S1x128x4096 .bf16) (codes : IVec S896x256x32 16) (rs : FVec Ideal S14336 .f32) (su : FVec Ideal S4096 .f32)
    (sv : FVec Ideal S14336 .f32) (h : (fn (F := Ideal) x codes rs su sv).2.2 = fun _ => 1#1) (i : S4096.Idx) : ∃ r : ℝ, su i = (r : EReal) := by
  have h' := congrFun h i
  pointwise [fn] at h'
  exact real_of_abs_lt _ _ h'

end Cert.Pre_finite_inputs.Hand

end
-- ==== Proof.lean ====
/- The certificate's claims, put together: the frames of the kernel and of the reference, and the equality of their
   results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.KFrame
public import proofs.«01_k».proof.Proof.KRes
public import proofs.«01_k».proof.Proof.RefVal
public import proofs.«01_k».proof.Proof.Pre
public import Idealize.ShloMosaic.Adequacy
public import Idealize.ShloMosaic.Init

@[expose] public section

noncomputable section

namespace Cert.Proof

open Idealize.ShloMosaic Idealize.SL.Sem

/-- The kernel as printed runs, leaves its arguments as they were and every semaphore at zero. -/
theorem frame_kernel : Cert.quiescent_Kernel := fun m ρ _ => Cert.Kernel.Hand.frame_run m ρ

/-- The same of the kernel read over the extended reals. -/
theorem frame_kernelIdeal : Cert.quiescent_KernelIdeal := fun m ρ _ => Cert.KernelIdeal.Hand.frame_run m ρ

/-- The reference runs, leaves its arguments as they were and every semaphore at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Under `finite_inputs` the activations, the row scales and the input signs are real numbers. -/
theorem finite_args (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    Cert.KernelIdeal.Hand.Fin' (Cert.KernelIdeal.Hand.a0 m c) ∧ Cert.KernelIdeal.Hand.Fin' (Cert.KernelIdeal.Hand.a2 m c)
      ∧ Cert.KernelIdeal.Hand.Fin' (Cert.KernelIdeal.Hand.a3 m c) :=
  ⟨Cert.Pre_finite_inputs.Hand.x_real _ _ _ _ _ (h c).1, Cert.Pre_finite_inputs.Hand.rs_real _ _ _ _ _ (h c).2.1,
    Cert.Pre_finite_inputs.Hand.su_real _ _ _ _ _ (h c).2.2⟩

/-- Kernel and reference end with the same two results over the extended reals: the layer's output and the transformed
    activations, each the same function of the arguments. -/
theorem algebraic : Cert.algebraic_KernelIdeal_ReferenceIdeal_pre_finite_inputs := by
  intro m g m' g' hpre hagree
  have H := finite_args m hpre
  refine ⟨fun c => Cert.KernelIdeal.Hand.specY (Cert.KernelIdeal.Hand.a0 m c) (Cert.KernelIdeal.Hand.a1 m c) (Cert.KernelIdeal.Hand.a2 m c)
      (Cert.KernelIdeal.Hand.a3 m c) (Cert.KernelIdeal.Hand.a4 m c),
    fun c => Cert.KernelIdeal.Hand.specX (Cert.KernelIdeal.Hand.a0 m c) (Cert.KernelIdeal.Hand.a3 m c),
    Cert.KernelIdeal.Hand.value_run m g H, ?_⟩
  refine (θ_run Cert.ReferenceIdeal.defs _ _).mono (fun r h c => ?_) (Cert.ReferenceIdeal.Hand.value_run m' g' (fun c => ?_))
  · obtain ⟨e0, e1, e2, e3, e4⟩ := hagree c
    refine ⟨(h c).1.trans ?_, (h c).2.1.trans ?_, (h c).2.2⟩
    · rw [e0, e1, e2, e3, e4]
    · rw [e0, e3]
  · obtain ⟨e0, e1, e2, e3, e4⟩ := hagree c
    rw [e0, e2, e3]
    exact H c

/-- Everything this certificate claims. -/
theorem claim : Cert.Claim := ⟨Cert.Kernel.Gen.facts, Cert.KernelIdeal.Gen.facts, Cert.ReferenceIdeal.Gen.facts, Cert.Pre_finite_inputs.Hand.facts,
  frame_kernel, frame_kernelIdeal, fun m ρ _ => Cert.KernelIdeal.Hand.frame_run m ρ, frame_reference, fun m ρ _ => frame_reference m ρ trivial,
  trivial, algebraic⟩

end Cert.Proof

end
